-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![16384, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 4096]⟩ ⟨2, ![1024, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S64x4096 : Shape := ⟨2, ![64, 4096]⟩
abbrev S15x64x2048 : Shape := ⟨3, ![15, 64, 2048]⟩
abbrev S15x2 : Shape := ⟨2, ![15, 2]⟩
abbrev S_ : Shape := ⟨0, ![]⟩
abbrev S1x1 : Shape := ⟨2, ![1, 1]⟩
abbrev S1x64x1024 : Shape := ⟨3, ![1, 64, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S64x4096, .f32⟩
  | .local _ .vmem, ⟨0, _⟩ => ⟨S1024x1024, .f32⟩
  | .local _ .vmem, ⟨1, _⟩ => ⟨S1024x4096, .f32⟩
  | .local _ .vmem, ⟨2, _⟩ => ⟨S64x4096, .f32⟩
  | .local _ .vmem, ⟨3, _⟩ => ⟨S1024x4096, .f32⟩
  | .local _ .vmem, ⟨4, _⟩ => ⟨S15x64x2048, .f32⟩
  | .local _ .vmem, ⟨5, _⟩ => ⟨S15x64x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v21 : BitVec 32 := Scalar.addi v2 c32_i32
  let c1_i32_15 : BitVec 32 := 1#32
  let v22 : BitVec 32 := Scalar.subi v21 c1_i32_15
  let v23 : BitVec 32 := Scalar.subi v22 c0_i32_16
  let c16_i32_17 : BitVec 32 := 16#32
  let v24 : BitVec 32 := Scalar.remsi v23 c16_i32_17
  let c64_i32 : BitVec 32 := 64#32
  let v25 : BitVec 32 := Scalar.muli v24 c64_i32
  let c0_i32_27 : BitVec 32 := 0#32
  ![v25.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_23 : BitVec 32 := 1#32
  let v26 : BitVec 32 := Scalar.muli v7 c1_i32_23
  let v27 : BitVec 32 := Scalar.addi c0_i32_24 v26
  v27.toNat
def k0_off2 (d0 : Dev nD) (c0_i32_30 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_28 : BitVec 32 := 32#32
  let v35 : BitVec 32 := Scalar.addi v2 c32_i32_28
  let c1_i32_29 : BitVec 32 := 1#32
  let v36 : BitVec 32 := Scalar.subi v35 c1_i32_29
  let v37 : BitVec 32 := Scalar.subi v36 c0_i32_30
  let c16_i32_31 : BitVec 32 := 16#32
  let v38 : BitVec 32 := Scalar.remsi v37 c16_i32_31
  let c64_i32_32 : BitVec 32 := 64#32
  let v39 : BitVec 32 := Scalar.muli v38 c64_i32_32
  let c1024_i32_41 : BitVec 32 := 1024#32
  ![v39.toNat, 1024]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_38 : BitVec 32 := 1#32
  let v40 : BitVec 32 := Scalar.muli v7 c1_i32_38
  let v41 : BitVec 32 := Scalar.addi c0_i32_39 v40
  v41.toNat
def k0_off3 (d0 : Dev nD) (c0_i32_43 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_42 : BitVec 32 := 1#32
  let v49 : BitVec 32 := Scalar.addi v2 c1_i32_42
  let v50 : BitVec 32 := Scalar.addi v49 c0_i32_43
  let c16_i32_44 : BitVec 32 := 16#32
  let v51 : BitVec 32 := Scalar.remsi v50 c16_i32_44
  let c64_i32_45 : BitVec 32 := 64#32
  let v52 : BitVec 32 := Scalar.muli v51 c64_i32_45
  let c2048_i32 : BitVec 32 := 2048#32
  ![v52.toNat, 2048]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_51 : BitVec 32 := 1#32
  let v53 : BitVec 32 := Scalar.muli v5 c1_i32_51
  let v54 : BitVec 32 := Scalar.addi c0_i32_52 v53
  v54.toNat
def k0_off4 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_55 : BitVec 32 := 1#32
  let v62 : BitVec 32 := Scalar.addi v2 c1_i32_55
  let v63 : BitVec 32 := Scalar.addi v62 c0_i32_56
  let c16_i32_57 : BitVec 32 := 16#32
  let v64 : BitVec 32 := Scalar.remsi v63 c16_i32_57
  let c64_i32_58 : BitVec 32 := 64#32
  let v65 : BitVec 32 := Scalar.muli v64 c64_i32_58
  let c3072_i32 : BitVec 32 := 3072#32
  ![v65.toNat, 3072]
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_64 : BitVec 32 := 1#32
  let v66 : BitVec 32 := Scalar.muli v5 c1_i32_64
  let v67 : BitVec 32 := Scalar.addi c0_i32_65 v66
  v67.toNat
def k0_off5 (d0 : Dev nD) (c0_i32_70 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_68 : BitVec 32 := 32#32
  let v75 : BitVec 32 := Scalar.addi v2 c32_i32_68
  let c2_i32_69 : BitVec 32 := 2#32
  let v76 : BitVec 32 := Scalar.subi v75 c2_i32_69
  let v77 : BitVec 32 := Scalar.subi v76 c0_i32_70
  let c16_i32_71 : BitVec 32 := 16#32
  let v78 : BitVec 32 := Scalar.remsi v77 c16_i32_71
  let c64_i32_90 : BitVec 32 := 64#32
  let v94 : BitVec 32 := Scalar.muli v78 c64_i32_90
  let v95 : Index := Scalar.indexCast v94
  let c0_91 : Index := 0#32
  ![v95.toNat, 0]
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_106 : BitVec 32 := 1#32
  let v109 : BitVec 32 := Scalar.muli v7 c1_i32_106
  let v110 : BitVec 32 := Scalar.addi c0_i32_107 v109
  v110.toNat
def k0_off6 (d0 : Dev nD) (c0_i32_70 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_68 : BitVec 32 := 32#32
  let v75 : BitVec 32 := Scalar.addi v2 c32_i32_68
  let c2_i32_69 : BitVec 32 := 2#32
  let v76 : BitVec 32 := Scalar.subi v75 c2_i32_69
  let v77 : BitVec 32 := Scalar.subi v76 c0_i32_70
  let c16_i32_71 : BitVec 32 := 16#32
  let v78 : BitVec 32 := Scalar.remsi v77 c16_i32_71
  let c64_i32_135 : BitVec 32 := 64#32
  let v135 : BitVec 32 := Scalar.muli v78 c64_i32_135
  let v136 : Index := Scalar.indexCast v135
  let c1024 : Index := 1024#32
  ![v136.toNat, 1024]
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_150 : BitVec 32 := 1#32
  let v150 : BitVec 32 := Scalar.muli v7 c1_i32_150
  let v151 : BitVec 32 := Scalar.addi c0_i32_151 v150
  v151.toNat
def k0_off7 (d0 : Dev nD) (c0_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_72 : BitVec 32 := 2#32
  let v79 : BitVec 32 := Scalar.addi v2 c2_i32_72
  let v80 : BitVec 32 := Scalar.addi v79 c0_i32_73
  let c16_i32_74 : BitVec 32 := 16#32
  let v81 : BitVec 32 := Scalar.remsi v80 c16_i32_74
  let c64_i32_178 : BitVec 32 := 64#32
  let v175 : BitVec 32 := Scalar.muli v81 c64_i32_178
  let v176 : Index := Scalar.indexCast v175
  let c2048 : Index := 2048#32
  ![v176.toNat, 2048]
def k0_dev9 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_192 : BitVec 32 := 1#32
  let v189 : BitVec 32 := Scalar.muli v5 c1_i32_192
  let v190 : BitVec 32 := Scalar.addi c0_i32_193 v189
  v190.toNat
def k0_off8 (d0 : Dev nD) (c0_i32_73 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_72 : BitVec 32 := 2#32
  let v79 : BitVec 32 := Scalar.addi v2 c2_i32_72
  let v80 : BitVec 32 := Scalar.addi v79 c0_i32_73
  let c16_i32_74 : BitVec 32 := 16#32
  let v81 : BitVec 32 := Scalar.remsi v80 c16_i32_74
  let c64_i32_220 : BitVec 32 := 64#32
  let v214 : BitVec 32 := Scalar.muli v81 c64_i32_220
  let v215 : Index := Scalar.indexCast v214
  let c3072 : Index := 3072#32
  ![v215.toNat, 3072]
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_234 : BitVec 32 := 1#32
  let v228 : BitVec 32 := Scalar.muli v5 c1_i32_234
  let v229 : BitVec 32 := Scalar.addi c0_i32_235 v228
  v229.toNat
def k0_dev11 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_285 : BitVec 32 := 1#32
  let v276 : BitVec 32 := Scalar.muli v7 c1_i32_285
  let v277 : BitVec 32 := Scalar.addi c0_i32_286 v276
  v277.toNat
def k0_dev12 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_330 : BitVec 32 := 1#32
  let v317 : BitVec 32 := Scalar.muli v7 c1_i32_330
  let v318 : BitVec 32 := Scalar.addi c0_i32_331 v317
  v318.toNat
def k0_dev13 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_373 : BitVec 32 := 1#32
  let v356 : BitVec 32 := Scalar.muli v5 c1_i32_373
  let v357 : BitVec 32 := Scalar.addi c0_i32_374 v356
  v357.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_416 : BitVec 32 := 1#32
  let v395 : BitVec 32 := Scalar.muli v5 c1_i32_416
  let v396 : BitVec 32 := Scalar.addi c0_i32_417 v395
  v396.toNat
def k0_dev15 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_466 : BitVec 32 := 1#32
  let v443 : BitVec 32 := Scalar.muli v7 c1_i32_466
  let v444 : BitVec 32 := Scalar.addi c0_i32_467 v443
  v444.toNat
def k0_dev16 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_511 : BitVec 32 := 1#32
  let v484 : BitVec 32 := Scalar.muli v7 c1_i32_511
  let v485 : BitVec 32 := Scalar.addi c0_i32_512 v484
  v485.toNat
def k0_dev17 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_554 : BitVec 32 := 1#32
  let v523 : BitVec 32 := Scalar.muli v5 c1_i32_554
  let v524 : BitVec 32 := Scalar.addi c0_i32_555 v523
  v524.toNat
def k0_dev18 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_597 : BitVec 32 := 1#32
  let v562 : BitVec 32 := Scalar.muli v5 c1_i32_597
  let v563 : BitVec 32 := Scalar.addi c0_i32_598 v562
  v563.toNat
def k0_dev19 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_647 : BitVec 32 := 1#32
  let v610 : BitVec 32 := Scalar.muli v7 c1_i32_647
  let v611 : BitVec 32 := Scalar.addi c0_i32_648 v610
  v611.toNat
def k0_dev20 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_692 : BitVec 32 := 1#32
  let v651 : BitVec 32 := Scalar.muli v7 c1_i32_692
  let v652 : BitVec 32 := Scalar.addi c0_i32_693 v651
  v652.toNat
def k0_dev21 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_735 : BitVec 32 := 1#32
  let v690 : BitVec 32 := Scalar.muli v5 c1_i32_735
  let v691 : BitVec 32 := Scalar.addi c0_i32_736 v690
  v691.toNat
def k0_dev22 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_778 : BitVec 32 := 1#32
  let v729 : BitVec 32 := Scalar.muli v5 c1_i32_778
  let v730 : BitVec 32 := Scalar.addi c0_i32_779 v729
  v730.toNat
def k0_dev23 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_828 : BitVec 32 := 1#32
  let v777 : BitVec 32 := Scalar.muli v7 c1_i32_828
  let v778 : BitVec 32 := Scalar.addi c0_i32_829 v777
  v778.toNat
def k0_dev24 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_873 : BitVec 32 := 1#32
  let v818 : BitVec 32 := Scalar.muli v7 c1_i32_873
  let v819 : BitVec 32 := Scalar.addi c0_i32_874 v818
  v819.toNat
def k0_dev25 (d0 : Dev nD) : Nat :=
  let c0_i32_917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_916 : BitVec 32 := 1#32
  let v857 : BitVec 32 := Scalar.muli v5 c1_i32_916
  let v858 : BitVec 32 := Scalar.addi c0_i32_917 v857
  v858.toNat
def k0_dev26 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_959 : BitVec 32 := 1#32
  let v896 : BitVec 32 := Scalar.muli v5 c1_i32_959
  let v897 : BitVec 32 := Scalar.addi c0_i32_960 v896
  v897.toNat
def k0_dev27 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1009 : BitVec 32 := 1#32
  let v944 : BitVec 32 := Scalar.muli v7 c1_i32_1009
  let v945 : BitVec 32 := Scalar.addi c0_i32_1010 v944
  v945.toNat
def k0_dev28 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1054 : BitVec 32 := 1#32
  let v985 : BitVec 32 := Scalar.muli v7 c1_i32_1054
  let v986 : BitVec 32 := Scalar.addi c0_i32_1055 v985
  v986.toNat
def k0_dev29 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1097 : BitVec 32 := 1#32
  let v1024 : BitVec 32 := Scalar.muli v5 c1_i32_1097
  let v1025 : BitVec 32 := Scalar.addi c0_i32_1098 v1024
  v1025.toNat
def k0_dev30 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1140 : BitVec 32 := 1#32
  let v1063 : BitVec 32 := Scalar.muli v5 c1_i32_1140
  let v1064 : BitVec 32 := Scalar.addi c0_i32_1141 v1063
  v1064.toNat
def k0_dev31 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1190 : BitVec 32 := 1#32
  let v1111 : BitVec 32 := Scalar.muli v7 c1_i32_1190
  let v1112 : BitVec 32 := Scalar.addi c0_i32_1191 v1111
  v1112.toNat
def k0_dev32 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1235 : BitVec 32 := 1#32
  let v1152 : BitVec 32 := Scalar.muli v7 c1_i32_1235
  let v1153 : BitVec 32 := Scalar.addi c0_i32_1236 v1152
  v1153.toNat
def k0_dev33 (d0 : Dev nD) : Nat :=
  let c0_i32_1279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1278 : BitVec 32 := 1#32
  let v1191 : BitVec 32 := Scalar.muli v5 c1_i32_1278
  let v1192 : BitVec 32 := Scalar.addi c0_i32_1279 v1191
  v1192.toNat
def k0_dev34 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1321 : BitVec 32 := 1#32
  let v1230 : BitVec 32 := Scalar.muli v5 c1_i32_1321
  let v1231 : BitVec 32 := Scalar.addi c0_i32_1322 v1230
  v1231.toNat
def k0_dev35 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1371 : BitVec 32 := 1#32
  let v1278 : BitVec 32 := Scalar.muli v7 c1_i32_1371
  let v1279 : BitVec 32 := Scalar.addi c0_i32_1372 v1278
  v1279.toNat
def k0_dev36 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1416 : BitVec 32 := 1#32
  let v1319 : BitVec 32 := Scalar.muli v7 c1_i32_1416
  let v1320 : BitVec 32 := Scalar.addi c0_i32_1417 v1319
  v1320.toNat
def k0_dev37 (d0 : Dev nD) : Nat :=
  let c0_i32_1460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1459 : BitVec 32 := 1#32
  let v1358 : BitVec 32 := Scalar.muli v5 c1_i32_1459
  let v1359 : BitVec 32 := Scalar.addi c0_i32_1460 v1358
  v1359.toNat
def k0_dev38 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1502 : BitVec 32 := 1#32
  let v1397 : BitVec 32 := Scalar.muli v5 c1_i32_1502
  let v1398 : BitVec 32 := Scalar.addi c0_i32_1503 v1397
  v1398.toNat
def k0_dev39 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1552 : BitVec 32 := 1#32
  let v1445 : BitVec 32 := Scalar.muli v7 c1_i32_1552
  let v1446 : BitVec 32 := Scalar.addi c0_i32_1553 v1445
  v1446.toNat
def k0_dev40 (d0 : Dev nD) : Nat :=
  let c0_i32_1598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1597 : BitVec 32 := 1#32
  let v1486 : BitVec 32 := Scalar.muli v7 c1_i32_1597
  let v1487 : BitVec 32 := Scalar.addi c0_i32_1598 v1486
  v1487.toNat
def k0_dev41 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1640 : BitVec 32 := 1#32
  let v1525 : BitVec 32 := Scalar.muli v5 c1_i32_1640
  let v1526 : BitVec 32 := Scalar.addi c0_i32_1641 v1525
  v1526.toNat
def k0_dev42 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1683 : BitVec 32 := 1#32
  let v1564 : BitVec 32 := Scalar.muli v5 c1_i32_1683
  let v1565 : BitVec 32 := Scalar.addi c0_i32_1684 v1564
  v1565.toNat
def k0_dev43 (d0 : Dev nD) : Nat :=
  let c0_i32_1734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1733 : BitVec 32 := 1#32
  let v1612 : BitVec 32 := Scalar.muli v7 c1_i32_1733
  let v1613 : BitVec 32 := Scalar.addi c0_i32_1734 v1612
  v1613.toNat
def k0_dev44 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1778 : BitVec 32 := 1#32
  let v1653 : BitVec 32 := Scalar.muli v7 c1_i32_1778
  let v1654 : BitVec 32 := Scalar.addi c0_i32_1779 v1653
  v1654.toNat
def k0_dev45 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1821 : BitVec 32 := 1#32
  let v1692 : BitVec 32 := Scalar.muli v5 c1_i32_1821
  let v1693 : BitVec 32 := Scalar.addi c0_i32_1822 v1692
  v1693.toNat
def k0_dev46 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1864 : BitVec 32 := 1#32
  let v1731 : BitVec 32 := Scalar.muli v5 c1_i32_1864
  let v1732 : BitVec 32 := Scalar.addi c0_i32_1865 v1731
  v1732.toNat
def k0_dev47 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1914 : BitVec 32 := 1#32
  let v1779 : BitVec 32 := Scalar.muli v7 c1_i32_1914
  let v1780 : BitVec 32 := Scalar.addi c0_i32_1915 v1779
  v1780.toNat
def k0_dev48 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1959 : BitVec 32 := 1#32
  let v1820 : BitVec 32 := Scalar.muli v7 c1_i32_1959
  let v1821 : BitVec 32 := Scalar.addi c0_i32_1960 v1820
  v1821.toNat
def k0_dev49 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2002 : BitVec 32 := 1#32
  let v1859 : BitVec 32 := Scalar.muli v5 c1_i32_2002
  let v1860 : BitVec 32 := Scalar.addi c0_i32_2003 v1859
  v1860.toNat
def k0_dev50 (d0 : Dev nD) : Nat :=
  let c0_i32_2046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2045 : BitVec 32 := 1#32
  let v1898 : BitVec 32 := Scalar.muli v5 c1_i32_2045
  let v1899 : BitVec 32 := Scalar.addi c0_i32_2046 v1898
  v1899.toNat
def k0_dev51 (d0 : Dev nD) : Nat :=
  let c0_i32_2096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2095 : BitVec 32 := 1#32
  let v1946 : BitVec 32 := Scalar.muli v7 c1_i32_2095
  let v1947 : BitVec 32 := Scalar.addi c0_i32_2096 v1946
  v1947.toNat
def k0_dev52 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2140 : BitVec 32 := 1#32
  let v1987 : BitVec 32 := Scalar.muli v7 c1_i32_2140
  let v1988 : BitVec 32 := Scalar.addi c0_i32_2141 v1987
  v1988.toNat
def k0_dev53 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2183 : BitVec 32 := 1#32
  let v2026 : BitVec 32 := Scalar.muli v5 c1_i32_2183
  let v2027 : BitVec 32 := Scalar.addi c0_i32_2184 v2026
  v2027.toNat
def k0_dev54 (d0 : Dev nD) : Nat :=
  let c0_i32_2227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2226 : BitVec 32 := 1#32
  let v2065 : BitVec 32 := Scalar.muli v5 c1_i32_2226
  let v2066 : BitVec 32 := Scalar.addi c0_i32_2227 v2065
  v2066.toNat
def k0_dev55 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2276 : BitVec 32 := 1#32
  let v2113 : BitVec 32 := Scalar.muli v7 c1_i32_2276
  let v2114 : BitVec 32 := Scalar.addi c0_i32_2277 v2113
  v2114.toNat
def k0_dev56 (d0 : Dev nD) : Nat :=
  let c0_i32_2322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2321 : BitVec 32 := 1#32
  let v2154 : BitVec 32 := Scalar.muli v7 c1_i32_2321
  let v2155 : BitVec 32 := Scalar.addi c0_i32_2322 v2154
  v2155.toNat
def k0_dev57 (d0 : Dev nD) : Nat :=
  let c0_i32_2365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2364 : BitVec 32 := 1#32
  let v2193 : BitVec 32 := Scalar.muli v5 c1_i32_2364
  let v2194 : BitVec 32 := Scalar.addi c0_i32_2365 v2193
  v2194.toNat
def k0_dev58 (d0 : Dev nD) : Nat :=
  let c0_i32_2408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2407 : BitVec 32 := 1#32
  let v2232 : BitVec 32 := Scalar.muli v5 c1_i32_2407
  let v2233 : BitVec 32 := Scalar.addi c0_i32_2408 v2232
  v2233.toNat
def k0_dev59 (d0 : Dev nD) : Nat :=
  let c0_i32_2458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2457 : BitVec 32 := 1#32
  let v2280 : BitVec 32 := Scalar.muli v7 c1_i32_2457
  let v2281 : BitVec 32 := Scalar.addi c0_i32_2458 v2280
  v2281.toNat
def k0_dev60 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2502 : BitVec 32 := 1#32
  let v2321 : BitVec 32 := Scalar.muli v7 c1_i32_2502
  let v2322 : BitVec 32 := Scalar.addi c0_i32_2503 v2321
  v2322.toNat
def k0_dev61 (d0 : Dev nD) : Nat :=
  let c0_i32_2546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2545 : BitVec 32 := 1#32
  let v2360 : BitVec 32 := Scalar.muli v5 c1_i32_2545
  let v2361 : BitVec 32 := Scalar.addi c0_i32_2546 v2360
  v2361.toNat
def k0_dev62 (d0 : Dev nD) : Nat :=
  let c0_i32_2589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2588 : BitVec 32 := 1#32
  let v2399 : BitVec 32 := Scalar.muli v5 c1_i32_2588
  let v2400 : BitVec 32 := Scalar.addi c0_i32_2589 v2399
  v2400.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_2726 : BitVec 32 := 64#32
  let v2526 : BitVec 32 := Scalar.muli v2 c64_i32_2726
  let v2527 : Index := Scalar.indexCast v2526
  let c0_2727 : Index := 0#32
  ![v2527.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S16384x4096 : Shape := ⟨2, ![16384, 4096]⟩
abbrev S1024x16384 : Shape := ⟨2, ![1024, 16384]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S1024x16384, .f32⟩
  | .hbm, ⟨3, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Program.lean ====
/-
# The kernel's body as loops

The kernel's statements, written again as what they are: an opening handshake, the device's own product, and
then fifteen hops of four ring units. A unit is a direction (`true`: to the device on the right) and a column
half `t`. `body_eq` says the printed body is this program.
-/
module

public import proofs.«01_k».proof.Proof.Gen.KernelIdeal.Skeleton
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- The rows and columns a unit sends at hop `r`: where they start in the accumulator. -/
def sOff : (d : Bool) → (t : Fin 2) → Dev nD → Fin 15 → Fin 2 → Nat
  | true, 0, c, r => k0_off1 c (BitVec.ofNat 32 r.val)
  | true, 1, c, r => k0_off2 c (BitVec.ofNat 32 r.val)
  | false, 0, c, r => k0_off3 c (BitVec.ofNat 32 r.val)
  | false, 1, c, r => k0_off4 c (BitVec.ofNat 32 r.val)

/-- The rows and columns a unit adds to at hop `r`. -/
def aOff : (d : Bool) → (t : Fin 2) → Dev nD → Fin 15 → Fin 2 → Nat
  | true, 0, c, r => k0_off5 c (BitVec.ofNat 32 r.val)
  | true, 1, c, r => k0_off6 c (BitVec.ofNat 32 r.val)
  | false, 0, c, r => k0_off7 c (BitVec.ofNat 32 r.val)
  | false, 1, c, r => k0_off8 c (BitVec.ofNat 32 r.val)

/-- The block that is sent lies inside the accumulator. -/
theorem sOff_inb (d : Bool) (t : Fin 2) (c : Dev nD) (r : Fin 15) :
    ∀ i, sOff d t c r i + S64x1024.size i ≤ S1024x4096.size i := by
  match d, t with
  | true, 0 => exact k0_off1_inb c r
  | true, 1 => exact k0_off2_inb c r
  | false, 0 => exact k0_off3_inb c r
  | false, 1 => exact k0_off4_inb c r

/-- The block that is added to lies inside the accumulator. -/
theorem aOff_inb (d : Bool) (t : Fin 2) (c : Dev nD) (r : Fin 15) :
    ∀ i, aOff d t c r i + S64x1024.size i ≤ S1024x4096.size i := by
  match d, t with
  | true, 0 => exact k0_off5_inb c r
  | true, 1 => exact k0_off6_inb c r
  | false, 0 => exact k0_off7_inb c r
  | false, 1 => exact k0_off8_inb c r

/-- The device a unit of direction `d` sends to, as the kernel computes it. -/
def tgt : Bool → Dev nD → Dev nD
  | true, c => ⟨k0_dev3 c, k0_dev3_lt c⟩
  | false, c => ⟨k0_dev5 c, k0_dev5_lt c⟩

/-- A slot lies inside its landing buffer. -/
theorem slot_inb (t : Fin 2) (r : Fin 15) :
    ∀ i, (![r.val, 0, 1024 * t.val] : Fin 3 → Nat) i + S1x64x1024.size i ≤ S15x64x2048.size i := by
  revert t r; decide

/-- A copy's semaphore lies inside its array. -/
theorem sem_inb (t : Fin 2) (r : Fin 15) :
    ∀ i, (![r.val, t.val] : Fin 2 → Nat) i + S1x1.size i ≤ S15x2.size i := by
  revert t r; decide

/-- The accumulator, and the buffer the units of a direction land in. -/
abbrev accM : Memref sig .tc .vmem S1024x4096 .f32 := Memref.whole cc0_scratch0

/-- The landing buffer of a direction. -/
def commM : Bool → Memref sig .tc .vmem S15x64x2048 .f32
  | true => Memref.whole cc0_scratch1
  | false => Memref.whole cc0_scratch2

/-- The semaphores of a direction: those its copies leave by and those they land on. -/
def sendSems : Bool → DmaSems sig S15x2
  | true => cc0_scratch3
  | false => cc0_scratch5

/-- The receive semaphores of a direction. -/
def recvSems : Bool → DmaSems sig S15x2
  | true => cc0_scratch4
  | false => cc0_scratch6

/-- The send semaphore of a copy. -/
def sSem (d : Bool) (t : Fin 2) (r : Fin 15) : DmaSem sig :=
  (((sendSems d).slice (Rect.unit (s := S15x2) ![r.val, t.val] S1x1.size (sem_inb t r))).squeeze S_
    squeezes_S1x1_S_).sem

/-- The receive semaphore of a copy. -/
def rSem (d : Bool) (t : Fin 2) (r : Fin 15) : DmaSem sig :=
  (((recvSems d).slice (Rect.unit (s := S15x2) ![r.val, t.val] S1x1.size (sem_inb t r))).squeeze S_
    squeezes_S1x1_S_).sem

/-- The block of the accumulator sent at hop `r`. -/
def srcM (d : Bool) (t : Fin 2) (c : Dev nD) (r : Fin 15) : Memref sig .tc .vmem S64x1024 .f32 :=
  accM.slice (Rect.unit (s := S1024x4096) (sOff d t c r) S64x1024.size (sOff_inb d t c r)) (fun _ => rfl)

/-- Where in a landing buffer a unit's hop `r` lands. -/
abbrev slotR (t : Fin 2) (r : Fin 15) : Rect S15x64x2048 :=
  Rect.unit (s := S15x64x2048) ![r.val, 0, 1024 * t.val] S1x64x1024.size (slot_inb t r)

/-- The slot hop `r` lands in. -/
def slotM (d : Bool) (t : Fin 2) (r : Fin 15) : Memref sig .tc .vmem S64x1024 .f32 :=
  ((commM d).slice (slotR t r) (fun _ => rfl)).squeeze S64x1024 squeezes_S1x64x1024_S64x1024

/-- Start the copy of hop `r`. -/
def sendP (d : Bool) (t : Fin 2) (c : Dev nD) (r : Fin 15) : Prog (TpuEff nD τ sig (Elt F) Λ₀ .tc) PUnit :=
  Prog.lift (.enqueueDma (srcM d t c r) (.remote (Dev.tc (tgt d c)) (slotM d t r) (.dma (sSem d t r)))
    (.dma (rSem d t r)) (View.wordExact_bits rfl) ((View.wordExact_bits rfl).reshape _ _)
    ⟨⟨rfl, Or.inl rfl⟩, trivial⟩)

/-- Add what slot `r` holds to the accumulator's block at `off`. -/
def addAt (d : Bool) (t : Fin 2) (r : Fin 15) (off : Fin 2 → Nat)
    (inb : ∀ i, off i + S64x1024.size i ≤ S1024x4096.size i) : Prog (TpuEff nD τ sig (Elt F) Λ₀ .tc) PUnit := do
  let a : Vec F S64x1024 .f32 ← Prog.lift (.load accM (Rect.unit (s := S1024x4096) off S64x1024.size
    inb).toLoadRect (View.loadsAt_vmem h_S64x1024))
  let b : Vec F S1x64x1024 .f32 ← Prog.lift (.load (commM d) (slotR t r).toLoadRect
    (View.loadsAt_vmem h_S1x64x1024))
  let _ : Vec F S64x1024 .f32 ← Prog.lift (.load accM (Rect.unit (s := S1024x4096) off S64x1024.size
    inb).toLoadRect (View.loadsAt_vmem h_S64x1024))
  Prog.lift (.store accM (Rect.unit (s := S1024x4096) off S64x1024.size inb)
    (k0_pay2 a b) Finset.univ (View.stores_vmem_bits_univ h_S64x1024 rfl) (.inl rfl))

/-- Add what hop `r` brought to this device's own block. -/
def addP (d : Bool) (t : Fin 2) (c : Dev nD) (r : Fin 15) : Prog (TpuEff nD τ sig (Elt F) Λ₀ .tc) PUnit :=
  addAt d t r (aOff d t c r) (aOff_inb d t c r)

/-- One unit's part in one hop: await the block, add it, pass the sum on (but at the last hop), await the
block it lent. -/
def stepP (d : Bool) (t : Fin 2) (c : Dev nD) (r : Fin 15) : Prog (TpuEff nD τ sig (Elt F) Λ₀ .tc) PUnit := do
  Prog.lift (.waitDma2 (rSem d t r) (srcM d t c r) (slotM d t r) (View.wordExact_bits rfl)
    ((View.wordExact_bits rfl).reshape _ _))
  addP d t c r
  if h : r.val + 1 < 15 then sendP d t c ⟨r.val + 1, h⟩ else pure ⟨⟩
  Prog.lift (.waitDma2 (sSem d t r) (slotM d t r) (srcM d t c r) ((View.wordExact_bits rfl).reshape _ _)
    (View.wordExact_bits rfl))

/-- One hop: its four units in order. -/
def hopP (c : Dev nD) (r : Fin 15) : Prog (TpuEff nD τ sig (Elt F) Λ₀ .tc) PUnit := do
  stepP true 0 c r
  stepP true 1 c r
  stepP false 0 c r
  stepP false 1 c r

/-- The first `k` hops. -/
def hopsP (c : Dev nD) : (k : Nat) → k ≤ 15 → Prog (TpuEff nD τ sig (Elt F) Λ₀ .tc) PUnit
  | 0, _ => pure ⟨⟩
  | k + 1, h => hopsP c k (Nat.le_of_succ_le h) >>= fun _ => hopP c ⟨k, h⟩

/-- The handshake with the two neighbours. -/
def handP (c : Dev nD) : Prog (TpuEff nD τ sig (Elt F) Λ₀ .tc) PUnit := do
  semSignalWord (⟨k0_dev1 c, k0_dev1_lt c⟩ : Dev nD) barrier0 1#32
  semSignalWord (⟨k0_dev2 c, k0_dev2_lt c⟩ : Dev nD) barrier0 1#32
  semWaitWord barrier0 2#32

/-- The device's own product, stored over the whole accumulator. -/
def mulP : Prog (TpuEff nD τ sig (Elt F) Λ₀ .tc) PUnit := do
  let x : Vec F S1024x1024 .f32 ← Prog.lift (.load (Memref.whole cc0_stg0_0) (Rect.unit (s := S1024x1024) ![0, 0]
    S1024x1024.size inb_S1024x1024_S1024x1024_0_0).toLoadRect (View.loadsAt_vmem h_S1024x1024))
  let y : Vec F S1024x4096 .f32 ← Prog.lift (.load (Memref.whole cc0_stg1_0) (Rect.unit (s := S1024x4096) ![0, 0]
    S1024x4096.size inb_S1024x4096_S1024x4096_0_0).toLoadRect (View.loadsAt_vmem h_S1024x4096))
  let _ : Vec F S1024x4096 .f32 ← Prog.lift (.load accM (Rect.unit (s := S1024x4096) ![0, 0]
    S1024x4096.size inb_S1024x4096_S1024x4096_0_0).toLoadRect (View.loadsAt_vmem h_S1024x4096))
  Prog.lift (.store accM (Rect.unit (s := S1024x4096) ![0, 0] S1024x4096.size
    inb_S1024x4096_S1024x4096_0_0) (k0_pay1 x y) Finset.univ (View.stores_vmem_bits_univ h_S1024x4096 rfl)
    (.inl rfl))

/-- The four copies of hop 0. -/
def firstP (c : Dev nD) : Prog (TpuEff nD τ sig (Elt F) Λ₀ .tc) PUnit := do
  sendP true 0 c 0
  sendP true 1 c 0
  sendP false 0 c 0
  sendP false 1 c 0

/-- The device's own rows, written out. -/
def lastP (c : Dev nD) : Prog (TpuEff nD τ sig (Elt F) Λ₀ .tc) PUnit := do
  let a : Vec F S64x4096 .f32 ← Prog.lift (.load accM (Rect.unit (s := S1024x4096) (k0_off9 c) S64x4096.size
    (k0_off9_inb c)).toLoadRect (View.loadsAt_vmem h_S64x4096))
  let _ : Vec F S64x4096 .f32 ← Prog.lift (.load (Memref.whole cc0_stg2_0) (Rect.unit (s := S64x4096) ![0, 0]
    S64x4096.size inb_S64x4096_S64x4096_0_0).toLoadRect (View.loadsAt_vmem h_S64x4096))
  Prog.lift (.store (Memref.whole cc0_stg2_0) (Rect.unit (s := S64x4096) ![0, 0] S64x4096.size
    inb_S64x4096_S64x4096_0_0) a Finset.univ (View.stores_vmem_bits_univ h_S64x4096 rfl) (.inl rfl))

/-- The body. -/
def bodyP : Prog (TpuEff nD τ sig (Elt F) Λ₀ .tc) PUnit := do
  let c : Dev nD ← Prog.lift .deviceId
  handP c
  mulP
  firstP c
  hopsP c 15 (Nat.le_refl 15)
  lastP c

/-- The printed body, on the buffers and semaphores it is launched with, is the loops. -/
theorem body_eq :
    cc0_body (F := F) (Memref.whole cc0_stg0_0) (Memref.isWhole_whole _) (Memref.whole cc0_stg1_0)
      (Memref.isWhole_whole _) (Memref.whole cc0_stg2_0) (Memref.isWhole_whole _) (Memref.whole cc0_scratch0)
      (Memref.isWhole_whole _) (Memref.whole cc0_scratch1) (Memref.isWhole_whole _) (Memref.whole cc0_scratch2)
      (Memref.isWhole_whole _) cc0_scratch3 cc0_scratch4 cc0_scratch5 cc0_scratch6
    = bodyP := by
  chain_rfl

end Cert.KernelIdeal.Ring
-- ==== Proof.KernelIdeal.Geometry.lean ====
/-
# Where a unit's blocks lie

The ring's neighbours, which chunk of rows a unit handles at which hop, the accumulator's blocks (a direction, a
column half, a chunk of rows) and the landing buffers' slots, and that each family covers its buffer without
overlap.
-/
module

public import proofs.«01_k».proof.Proof.KernelIdeal.Program

@[expose] public section

noncomputable section

namespace Cert.KernelIdeal.Ring

open Cert.KernelIdeal Cert.KernelIdeal.Gen
open Idealize.ShloMosaic Idealize.ShloMosaic.TcCoe Idealize.SL.Sem

/-! ## The ring -/

/-- The device a unit of direction `d` sends to: the right one for `true`, the left one for `false`. -/
def nb : Bool → Dev nD → Dev nD
  | true, c => ⟨(c.val + 1) % 16, Nat.mod_lt _ (by decide)⟩
  | false, c => ⟨(c.val + 15) % 16, Nat.mod_lt _ (by decide)⟩

/-- Going one way and then the other leads back. -/
theorem nb_nb (d : Bool) (c : Dev nD) : nb d (nb (!d) c) = c := by revert d c; decide

/-- The same, the other way first. -/
theorem nb_nb' (d : Bool) (c : Dev nD) : nb (!d) (nb d c) = c := by revert d c; decide

/-- The ring as a permutation of the devices. -/
def ringE (d : Bool) : Dev nD ≃ Dev nD := ⟨nb d, nb (!d), nb_nb' d, nb_nb d⟩

/-- The first device the barrier signals is the left neighbour. -/
theorem dev1_eq (c : Dev nD) : (⟨k0_dev1 c, k0_dev1_lt c⟩ : Dev nD) = nb false c := Fin.ext (k0_dev1_eq c)

/-- The second device the barrier signals is the right neighbour. -/
theorem dev2_eq (c : Dev nD) : (⟨k0_dev2 c, k0_dev2_lt c⟩ : Dev nD) = nb true c := Fin.ext (k0_dev2_eq c)

/-- The device a copy of direction `d` goes to is the neighbour on that side. -/
theorem tgt_eq (d : Bool) (c : Dev nD) : tgt d c = nb d c := by
  cases d
  · exact Fin.ext (k0_dev5_eq c)
  · exact Fin.ext (k0_dev3_eq c)

/-! ## Chunks of rows -/

/-- The chunk a unit of direction `d` on device `c` sends at hop `r`; the chunk it adds to is the next one. -/
def sc : Bool → Nat → Dev nD → Fin 16
  | true, r, c => ⟨(c.val + 31 - r) % 16, Nat.mod_lt _ (by decide)⟩
  | false, r, c => ⟨(c.val + r + 1) % 16, Nat.mod_lt _ (by decide)⟩

/-- What a device's upstream neighbour sends at a hop is the chunk the device adds to. -/
theorem sc_up (d : Bool) (c : Dev nD) (r : Nat) (hr : r < 15) : sc d r (nb (!d) c) = sc d (r + 1) c := by
  have := c.isLt
  have hn : nD = 16 := rfl
  cases d <;> apply Fin.ext <;> simp only [sc, nb, Bool.not_true, Bool.not_false] <;> omega

/-- After the last hop it is the device's own chunk. -/
theorem sc_last (d : Bool) (c : Dev nD) : (sc d 15 c).val = c.val := by revert d c; decide

/-- In sixteen hops a unit handles no chunk twice. -/
theorem sc_inj (d : Bool) (c : Dev nD) (r r' : Fin 16) (h : sc d r.val c = sc d r'.val c) : r = r' := by
  have := c.isLt
  have hn : nD = 16 := rfl
  have := congrArg Fin.val h
  cases d <;> apply Fin.ext <;> simp only [sc] at this <;> omega

/-- In sixteen hops a unit handles every chunk. -/
theorem sc_surj (d : Bool) (c : Dev nD) (j : Fin 16) : ∃ r : Fin 16, sc d r.val c = j :=
  (Finite.injective_iff_surjective.mp fun r r' h => sc_inj d c r r' h) j

/-! ## The accumulator's blocks -/

/-- The first column of a unit's blocks. -/
def col (d : Bool) (t : Fin 2) : Nat := (if d then 0 else 2048) + 1024 * t.val

/-- A unit's blocks lie inside the accumulator. -/
theorem blk_inb (d : Bool) (t : Fin 2) (j : Fin 16) :
    ∀ i, (![64 * j.val, col d t] : Fin 2 → Nat) i + S64x1024.size i ≤ S1024x4096.size i := by
  revert d t j; decide +kernel

/-- The rectangle of unit `(d, t)`'s chunk `j`. -/
abbrev blkR (d : Bool) (t : Fin 2) (j : Fin 16) : Rect S1024x4096 :=
  Rect.unit (s := S1024x4096) ![64 * j.val, col d t] S64x1024.size (blk_inb d t j)

/-- The accumulator's block of unit `(d, t)`'s chunk `j`. -/
def blkM (d : Bool) (t : Fin 2) (j : Fin 16) : Memref sig .tc .vmem S64x1024 .f32 :=
  accM.slice (blkR d t j) (fun _ => rfl)

/-- The offset of the block that is sent at hop `r`, in closed form. -/
theorem sOff_eq (d : Bool) (t : Fin 2) (c : Dev nD) (r : Fin 15) :
    sOff d t c r = ![64 * (sc d r.val c).val, col d t] := by
  match d, t with
  | true, 0 => exact k0_off1_eq c r
  | true, 1 => exact k0_off2_eq c r
  | false, 0 => exact k0_off3_eq c r
  | false, 1 => exact k0_off4_eq c r

/-- The offset of the block that is added to at hop `r`: the block sent at the next hop. -/
theorem aOff_eq (d : Bool) (t : Fin 2) (c : Dev nD) (r : Fin 15) :
    aOff d t c r = ![64 * (sc d (r.val + 1) c).val, col d t] := by
  have e₁ : (sc true (r.val + 1) c).val = (c.val + 30 - r.val) % 16 :=
    show (c.val + 31 - (r.val + 1)) % 16 = _ by congr 1; omega
  have e₂ : (sc false (r.val + 1) c).val = (c.val + r.val + 2) % 16 :=
    show (c.val + (r.val + 1) + 1) % 16 = _ by congr 1
  match d, t with
  | true, 0 => rw [e₁]; exact k0_off5_eq c r
  | true, 1 => rw [e₁]; exact k0_off6_eq c r
  | false, 0 => rw [e₂]; exact k0_off7_eq c r
  | false, 1 => rw [e₂]; exact k0_off8_eq c r

/-- The block a unit sends, as one of the accumulator's blocks. -/
theorem srcM_eq (d : Bool) (t : Fin 2) (c : Dev nD) (r : Fin 15) : srcM d t c r = blkM d t (sc d r.val c) :=
  Memref.slice_unit_congr accM (sOff_eq d t c r) _ _ (fun _ => rfl) (fun _ => rfl)

/-- Which block an element lies in. -/
theorem mem_blkR (d : Bool) (t : Fin 2) (j : Fin 16) (i : S1024x4096.Idx) :
    i ∈ (blkR d t j).set ↔ (i 0).val / 64 = j.val ∧ (i 1).val / 1024 = (if d then 0 else 2) + t.val := by
  rw [Rect.mem_set_unit, Fin.forall_fin_two]
  simp only [Matrix.cons_val_zero, Matrix.cons_val_one, col, S64x1024]
  cases d <;> simp only [Bool.false_eq_true, if_true, if_false] <;> omega

/-- A unit's tag and a hop. -/
abbrev UIx : Type := Bool × Fin 2

/-- Device `c`'s blocks by unit and hop: each chunk of a unit comes up once in its sixteen hops. -/
abbrev hopR (c : Dev nD) (u : UIx × Fin 16) : Rect S1024x4096 := blkR u.1.1 u.1.2 (sc u.1.1 u.2.val c)

/-- The blocks of different units or hops have no element in common. -/
theorem hopR_disjoint (c : Dev nD) (u u' : UIx × Fin 16) (h : u ≠ u') : Disjoint (hopR c u).set (hopR c u').set := by
  rw [Finset.disjoint_left]
  intro i hi hi'
  obtain ⟨⟨d, t⟩, r⟩ := u
  obtain ⟨⟨d', t'⟩, r'⟩ := u'
  obtain ⟨h0, h1⟩ := (mem_blkR _ _ _ i).mp hi
  obtain ⟨h0', h1'⟩ := (mem_blkR _ _ _ i).mp hi'
  have ht := t.isLt
  have ht' := t'.isLt
  have hd : d = d' := by
    cases d <;> cases d' <;> first | rfl | (exfalso; simp only [Bool.false_eq_true, if_true, if_false] at h1 h1'; omega)
  subst hd
  have htt : t = t' := Fin.ext (by simp only at h1 h1'; omega)
  subst htt
  have hr : r = r' := sc_inj d c r r' (Fin.ext (by rw [← h0, ← h0']))
  subst hr
  exact h rfl

/-- Every element of the accumulator lies in the block of some unit and hop. -/
theorem hopR_cover (c : Dev nD) (i : S1024x4096.Idx) : ∃ u : UIx × Fin 16, i ∈ (hopR c u).set := by
  have h0 : (i 0).val < 1024 := (i 0).isLt
  have h1 : (i 1).val < 4096 := (i 1).isLt
  have key (d : Bool) (t : Fin 2) (ht : (i 1).val / 1024 = (if d then 0 else 2) + t.val) :
      ∃ u : UIx × Fin 16, i ∈ (hopR c u).set := by
    obtain ⟨r, hr⟩ := sc_surj d c ⟨(i 0).val / 64, by omega⟩
    exact ⟨((d, t), r), (mem_blkR d t _ i).mpr ⟨by rw [hr], ht⟩⟩
  by_cases h : (i 1).val < 2048
  · exact key true ⟨(i 1).val / 1024, by omega⟩ (by simp)
  · exact key false ⟨(i 1).val / 1024 - 2, by omega⟩ (by simp; omega)

/-! ## The slots -/

/-- Which slot of a landing buffer an element lies in. -/
theorem mem_slotR (t : Fin 2) (r : Fin 15) (i : S15x64x2048.Idx) :
    i ∈ (slotR t r).set ↔ (i 0).val = r.val ∧ (i 2).val / 1024 = t.val := by
  have h1 : (i 1).val < 64 := (i 1).isLt
  rw [Rect.mem_set_unit]
  constructor
  · intro h
    have a0 := h 0
    have a2 := h 2
    simp [S1x64x1024] at a0 a2
    omega
  · rintro ⟨e0, e2⟩ a
    fin_cases a <;> simp [S1x64x1024] <;> omega

/-- The slots of a landing buffer, by column half and hop. -/
abbrev slotR' (u : Fin 2 × Fin 15) : Rect S15x64x2048 := slotR u.1 u.2

/-- Different slots of a landing buffer have no element in common. -/
theorem slotR_disjoint (u u' : Fin 2 × Fin 15) (h : u ≠ u') : Disjoint (slotR' u).set (slotR' u').set := by
  rw [Finset.disjoint_left]
  intro i hi hi'
  obtain ⟨h0, h2⟩ := (mem_slotR _ _ i).mp hi
  obtain ⟨h0', h2'⟩ := (mem_slotR _ _ i).mp hi'
  exact h (Prod.ext (Fin.ext (by omega)) (Fin.ext (by omega)))

/-- Every element of a landing buffer lies in some slot. -/
theorem slotR_cover (i : S15x64x2048.Idx) : ∃ u : Fin 2 × Fin 15, i ∈ (slotR' u).set := by
  have h0 : (i 0).val < 15 := (i 0).isLt
  have h2 : (i 2).val < 2048 := (i 2).isLt
  exact ⟨(⟨(i 2).val / 1024, by omega⟩, ⟨(i 0).val, h0⟩), (mem_slotR _ _ i).mpr ⟨rfl, rfl⟩⟩

/-! ## The semaphores -/

/-- A copy's semaphore: whether the sender's (`true`) or the receiver's, its direction, column half and hop. -/
abbrev Tag : Type := Bool × Bool × Fin 2 × Fin 15

/-- The semaphore with a given tag. -/
def semOf : Tag → DmaSem sig
  | (true, d, t, r) => sSem d t r
  | (false, d, t, r) => rSem d t r

/-- Different copies' semaphores are different, and none is a staging semaphore. -/
theorem semOf_val (x : Tag) : (semOf x).val =
    3 + (if x.2.1 then 0 else 60) + (if x.1 then 0 else 30) + 2 * x.2.2.2.val + x.2.2.1.val := by
  revert x; decide +kernel

/-- Different tags have different semaphores. -/
theorem semOf_inj (x y : Tag) (h : semOf x = semOf y) : x = y := by
  have e := congrArg Fin.val h
  rw [semOf_val, semOf_val] at e
  obtain ⟨s, d, t, r⟩ := x
  obtain ⟨s', d', t', r'⟩ := y
  have := t.isLt
  have := t'.isLt
  have := r.isLt
  have := r'.isLt
  simp only at e
  cases s <;> cases s' <;> cases d <;> cases d' <;> simp only [Bool.false_eq_true, if_true, if_false] at e <;>
    first
    | (exfalso; omega)
    | (have et : t = t' := Fin.ext (by omega)
       have er : r = r' := Fin.ext (by omega)
       rw [et, er])

end Cert.KernelIdeal.Ring
-- ==== Proof.KernelIdeal.Values.lean ====
/-
# What the units carry

A device's own product, and the sums the ring carries: what a unit sends at hop `r` is the sum, over the devices
upstream, of their products' block of one chunk.
-/
module

public import proofs.«01_k».proof.Proof.KernelIdeal.Geometry

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- Device `c`'s block of `dy`, as staged. -/
def ystg (c : Dev nD) : (cc0_stg1_0 : Ref sig .tc).ty.Contents (Elt F) :=
  (win0_1.blk (0 : Fin 1)).view.read (Elt F) (m ((c : Thread nD τ).loc main_arg1))

/-- Device `c`'s own product. -/
def prodAt (c : Dev nD) : Vec F S1024x4096 .f32 := k0_pay1 (xstg m c) (ystg m c)

/-- Its block of unit `(d, t)` that takes part at hop `r`. -/
def part (d : Bool) (t : Fin 2) (r : Nat) (c : Dev nD) : Vec F S64x1024 .f32 :=
  fun j => prodAt m c ((blkR d t (sc d r c)).emb j)

/-- What unit `(d, t)` on device `c` sends at hop `r` (at `r = 15`: its result): its own block added to what the
neighbour upstream sent the hop before. -/
def sent (d : Bool) (t : Fin 2) : Nat → Dev nD → Vec F S64x1024 .f32
  | 0, c => part m d t 0 c
  | r + 1, c => addf (part m d t (r + 1) c) (sent d t r (nb (!d) c))

/-- What lands at device `c` at hop `r`. -/
def landed (d : Bool) (t : Fin 2) (r : Nat) (c : Dev nD) : Vec F S64x1024 .f32 := sent m d t r (nb (!d) c)

/-- One addition of the body, its second operand read through a slot. -/
theorem pay2_eq (a : Vec F S64x1024 .f32) (b : Vec F S1x64x1024 .f32) (B : Vec F S64x1024 .f32)
    (h : shapeCast S64x1024 b shapeCasts_S1x64x1024_S64x1024 = B) : k0_pay2 a b = addf a B := by
  subst h
  unfold k0_pay2
  exact funext fun j => congrArg (addf a (shapeCast S64x1024 b shapeCasts_S1x64x1024_S64x1024))
    (Shape.reshapeEquiv_self _ j)

/-- A slot read through its squeezed view. -/
theorem slot_read (d : Bool) (t : Fin 2) (r : Fin 15) (f : (slotM d t r).view.ty.Contents (Elt F)) :
    shapeCast S64x1024 (((commM d).access (slotR t r)).read (Elt F) f) shapeCasts_S1x64x1024_S64x1024
      = (slotM d t r).view.read (Elt F) f := rfl

end Cert.KernelIdeal.Ring
-- ==== Proof.KernelIdeal.Protocol.lean ====
/-
# The protocol of the ring

Who signals whom, how much, and what is handed over.

* Barrier cell of device `c`: two units, one from each neighbour (duty `d` from `nb d c`), each handing over the
  neighbour's landing buffer of direction `d`, which `c` is about to write into.
* Receive cell `(d, t, r)` of `c`: one copy's credit, from the neighbour upstream, handing over the slot it
  landed in, holding what was sent.
* Send cell `(d, t, r)` of `c`: the same copy's credit at its sender, handing back the block that was sent.

Waits are ordered by level: barrier cells at 1, the receive cells of hop `r` at `2 + r`, the rest at 0. A device
that waits owes only to receive cells of later hops.
-/
module

public import proofs.«01_k».proof.Proof.KernelIdeal.Values
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's ghost state: rounds of duties at the cells. -/
abbrev UB : Type := URounds (GSem nD τ sig) Bool

/-- The whole ghost state: the staging's and the ring's. -/
abbrev UU : Type := UR sig nD τ × UB

local notation "𝕄" => MT nD τ sig Unit (Elt F) ℕ UU ℕ

/-- The staging's part of the ghost state, and the ring's. -/
abbrev EP : Emb (UR sig nD τ) (MT nD τ sig Unit (Elt F) ℕ UU ℕ) := embL

/-- The ring's part of the ghost state. -/
abbrev ER : Emb UB (MT nD τ sig Unit (Elt F) ℕ UU ℕ) := embR

variable (m : (ℓ : Loc nD τ sig) → Buf (Elt F) ℓ)

/-! ## Cells -/

/-- The barrier's cell on a device. -/
abbrev bCell (c : Dev nD) : GSem nD τ sig := ((c : Thread nD τ), .reg barrier0)

/-- The send cell of a copy. -/
abbrev sCell (c : Dev nD) (d : Bool) (t : Fin 2) (r : Fin 15) : GSem nD τ sig := ((c : Thread nD τ), .dma (sSem d t r))

/-- The receive cell of a copy. -/
abbrev rCell (c : Dev nD) (d : Bool) (t : Fin 2) (r : Fin 15) : GSem nD τ sig := ((c : Thread nD τ), .dma (rSem d t r))

/-- The cells of a device: the barrier's, and each copy's two. -/
abbrev csem : Option Tag → SemLoc sig
  | none => .reg barrier0
  | some x => .dma (semOf x)

/-- The cell of a tag on a device; without a tag, the barrier's. -/
abbrev kcell (ck : Dev nD × Option Tag) : GSem nD τ sig := ((ck.1 : Thread nD τ), csem ck.2)

/-- Whose semaphore a DMA semaphore is. -/
def tagOf (q : DmaSem sig) : Option Tag :=
  open Classical in if h : ∃ x, semOf x = q then some h.choose else none

/-- The semaphore of a tag has that tag. -/
theorem tagOf_semOf (x : Tag) : tagOf (semOf x) = some x := by
  have h : ∃ y, semOf y = semOf x := ⟨x, rfl⟩
  unfold tagOf
  rw [dif_pos h]
  exact congrArg some (semOf_inj _ _ h.choose_spec)

/-- The tag of a send semaphore. -/
theorem tagOf_s (d : Bool) (t : Fin 2) (r : Fin 15) : tagOf (sSem d t r) = some (true, d, t, r) :=
  tagOf_semOf (true, d, t, r)

/-- The tag of a receive semaphore. -/
theorem tagOf_r (d : Bool) (t : Fin 2) (r : Fin 15) : tagOf (rSem d t r) = some (false, d, t, r) :=
  tagOf_semOf (false, d, t, r)

/-- The three semaphores that stage the windows have no tag. -/
theorem tagOf_low (q : DmaSem sig) (h : q.val < 3) : tagOf q = none := by
  unfold tagOf
  rw [dif_neg]
  rintro ⟨x, rfl⟩
  rw [semOf_val] at h
  omega

/-- The credit of one copy. -/
abbrev N : ℕ := (slotM true 0 0).view.dmaCredit

/-- A copy pays something. -/
theorem N_pos : 0 < N := View.dmaCredit_pos _ (by decide)

/-- What a copy pays, counted at the slot it lands in. -/
theorem credit_slot (d : Bool) (t : Fin 2) (r : Fin 15) : (slotM d t r).view.dmaCredit = N := by cases d <;> rfl

/-- What a copy pays, counted at the block it reads. -/
theorem credit_src (d : Bool) (t : Fin 2) (c : Dev nD) (r : Fin 15) : (srcM d t c r).view.dmaCredit = N := rfl

/-! ## What is handed over -/

/-- Device `c`'s block of hop `r` holding `X`; the slot of hop `r` holding `X`. -/
def blkOwn (c : Dev nD) (d : Bool) (t : Fin 2) (r : Nat) (X : Vec F S64x1024 .f32) : sProp 𝕄 :=
  ownsTc c (blkM d t (sc d r c)) fullShare X

/-- A landing slot of device `c`, holding `X`. -/
def slotOwn (c : Dev nD) (d : Bool) (t : Fin 2) (r : Fin 15) (X : Vec F S64x1024 .f32) : sProp 𝕄 :=
  ownsTc c (slotM d t r) fullShare X
/-- Device `c`'s landing buffer of direction `d`, at some contents. -/
def commOwn (c : Dev nD) (d : Bool) : sProp 𝕄 := iprop(∃ X, ownsTc c (commM d) fullShare X)

/-- A block can be kept in an invariant. -/
instance blkOwn_storable (c : Dev nD) (d t r) (X : Vec F S64x1024 .f32) :
    BI.Storable (upEmb : UEmb _ 𝕄) (blkOwn c d t r X) := by unfold blkOwn; infer_instance

/-- A slot can be kept in an invariant. -/
instance slotOwn_storable (c : Dev nD) (d t r) (X : Vec F S64x1024 .f32) :
    BI.Storable (upEmb : UEmb _ 𝕄) (slotOwn c d t r X) := by unfold slotOwn; infer_instance

/-- A landing buffer can be kept in an invariant. -/
instance commOwn_storable (c : Dev nD) (d) : BI.Storable (upEmb : UEmb _ 𝕄) (commOwn (F := F) c d) := by
  unfold commOwn; infer_instance

/-- What a copy's cell of device `c` hands over. -/
def tagPay (c : Dev nD) : Tag → sProp 𝕄
  | (true, d, t, r) => blkOwn c d t r.val (sent m d t r.val c)
  | (false, d, t, r) => slotOwn c d t r (landed m d t r.val c)

/-- What a copy hands over can be kept in an invariant. -/
instance tagPay_storable (c : Dev nD) (x : Tag) : BI.Storable (upEmb : UEmb _ 𝕄) (tagPay m c x) := by
  rcases x with ⟨_ | _, d, t, r⟩ <;> unfold tagPay <;> infer_instance

/-- The duties at a semaphore: two at the barrier, one from each side; one at a copy's; none at the staging's. -/
def dutiesOf : SemLoc sig → Finset Bool
  | .reg _ => Finset.univ
  | .dma q => match tagOf q with
    | some _ => {false}
    | none => ∅

/-- What a duty hands over: at the barrier the payer's landing buffer; at a copy's semaphore what the copy moved. -/
def payOf (c : Dev nD) (b : Bool) : SemLoc sig → sProp 𝕄
  | .reg _ => commOwn (nb b c) b
  | .dma q => match tagOf q with
    | some x => tagPay m c x
    | none => iprop(emp)

/-- How much a duty pays: one at the barrier, a copy's credit at a copy's semaphore. -/
def amountOf' : SemLoc sig → ℕ
  | .reg _ => 1
  | .dma _ => N

/-- The schedule: one round. -/
def Rd : Rounds.Schedule (GSem nD τ sig) Bool 𝕄 where
  duties g r := if r = 0 ∧ g.1.2 = .tc then dutiesOf g.2 else ∅
  unitless _ := False
  amount g _ _ := amountOf' g.2
  payload g _ b := payOf m g.1.1 b g.2
  amount_pos g _ _ _ := by
    rcases g with ⟨_, _ | _⟩
    · exact Nat.one_pos
    · exact N_pos

/-- Every payload can be kept in an invariant. -/
instance Rd_payload_storable (g : GSem nD τ sig) (r : ℕ) (b : Bool) :
    BI.Storable (upEmb : UEmb _ 𝕄) ((Rd m).payload g r b) := by
  rcases g with ⟨th, s | q⟩
  · show BI.Storable upEmb (commOwn (F := F) (nb b th.1) b); infer_instance
  · show BI.Storable upEmb (match tagOf q with | some x => tagPay m th.1 x | none => iprop(emp))
    split <;> infer_instance

section Sched
variable (c : Dev nD) (d : Bool) (t : Fin 2) (r : Fin 15)

/-- The barrier has both duties. -/
theorem duties_b : (Rd m).duties (bCell c) 0 = Finset.univ := by
  dsimp only [Rd]; rw [if_pos ⟨rfl, rfl⟩]; rfl

/-- A copy's cell has one duty. -/
theorem duties_tag (x : Tag) : (Rd m).duties (kcell (c, some x)) 0 = {false} := by
  dsimp only [Rd]; rw [if_pos ⟨rfl, rfl⟩]; dsimp only [dutiesOf]; rw [tagOf_semOf]

/-- A send cell has one duty. -/
theorem duties_s : (Rd m).duties (sCell c d t r) 0 = {false} := duties_tag m c (true, d, t, r)

/-- A receive cell has one duty. -/
theorem duties_r : (Rd m).duties (rCell c d t r) 0 = {false} := duties_tag m c (false, d, t, r)

/-- After the first round no cell has a duty. -/
theorem duties_later (g : GSem nD τ sig) : ∀ k, 1 ≤ k → (Rd m).duties g k = ∅ :=
  fun k hk => by dsimp only [Rd]; rw [if_neg fun h => by omega]

/-- The barrier waits for two. -/
theorem expect_b : (Rd m).expect (bCell c) 0 = 2 := by
  unfold Schedule.expect Schedule.amountOf
  rw [duties_b]
  exact (Finset.sum_const 1).trans (by decide)

/-- A copy's cell waits for one copy's credit. -/
theorem expect_tag (x : Tag) : (Rd m).expect (kcell (c, some x)) 0 = N := by
  unfold Schedule.expect Schedule.amountOf; rw [duties_tag, Finset.sum_singleton]; rfl

/-- A send cell waits for one copy's credit. -/
theorem expect_s : (Rd m).expect (sCell c d t r) 0 = N := expect_tag m c (true, d, t, r)

/-- A receive cell waits for one copy's credit. -/
theorem expect_r : (Rd m).expect (rCell c d t r) 0 = N := expect_tag m c (false, d, t, r)

/-- At the barrier a neighbour hands over its landing buffer. -/
theorem pay_b (b : Bool) : (Rd m).payload (bCell c) 0 b = commOwn (nb b c) b := rfl

/-- What a copy's cell hands over, by tag. -/
theorem pay_tag (x : Tag) (b : Bool) : (Rd m).payload (kcell (c, some x)) 0 b = tagPay m c x := by
  show payOf m c b (.dma (semOf x)) = _
  dsimp only [payOf]; rw [tagOf_semOf]

/-- A send cell gives back the block that was sent, its contents unchanged. -/
theorem pay_s (b : Bool) : (Rd m).payload (sCell c d t r) 0 b = blkOwn c d t r.val (sent m d t r.val c) :=
  pay_tag m c (true, d, t, r) b

/-- A receive cell hands over the slot, holding what the neighbour upstream sent. -/
theorem pay_r (b : Bool) : (Rd m).payload (rCell c d t r) 0 b = slotOwn c d t r (landed m d t r.val c) :=
  pay_tag m c (false, d, t, r) b

/-- All a round of a cell hands over. -/
theorem rest_b : bigSep ((Rd m).duties (bCell c) 0 \ ∅) (fun b => (Rd m).payload (bCell c) 0 b)
    = iprop(commOwn (nb false c) false ∗ commOwn (nb true c) true) := by
  rw [Finset.sdiff_empty, duties_b, bigSep_univ_eq_bigSepL [false, true] (by decide) (by decide), bigSepL_cons_cons,
    bigSepL_singleton, pay_b, pay_b]
  rfl

/-- All that a send cell's round hands over is the block. -/
theorem rest_s : bigSep ((Rd m).duties (sCell c d t r) 0 \ ∅) (fun b => (Rd m).payload (sCell c d t r) 0 b)
    = blkOwn c d t r.val (sent m d t r.val c) := by rw [Finset.sdiff_empty, duties_s, bigSep_singleton, pay_s]

/-- All that a receive cell's round hands over is the slot. -/
theorem rest_r : bigSep ((Rd m).duties (rCell c d t r) 0 \ ∅) (fun b => (Rd m).payload (rCell c d t r) 0 b)
    = slotOwn c d t r (landed m d t r.val c) := by rw [Finset.sdiff_empty, duties_r, bigSep_singleton, pay_r]

end Sched

/-! ## What is owed, and the order of the waits -/

/-- The hops from `k` on. -/
def from_ (n k : Nat) : Finset (Fin n) := Finset.univ.filter fun r => k ≤ r.val

/-- The hops from `k` on are `k` and those after it. -/
theorem from_peel {n : Nat} (k : Fin n) : from_ n k.val = insert k (from_ n (k.val + 1)) := by
  ext r
  simp only [from_, Finset.mem_filter, Finset.mem_univ, true_and, Finset.mem_insert, Fin.ext_iff]
  omega

/-- Hop `k` is not after itself. -/
theorem from_notMem {n : Nat} (k : Fin n) : k ∉ from_ n (k.val + 1) := by
  simp only [from_, Finset.mem_filter, Finset.mem_univ, true_and]; omega

/-- From hop `0` on: all hops. -/
theorem from_zero (n : Nat) : from_ n 0 = Finset.univ := Finset.filter_true_of_mem fun _ _ => Nat.zero_le _

/-- Past the last hop none is left. -/
theorem from_end {n k : Nat} (h : n ≤ k) : from_ n k = ∅ :=
  Finset.filter_false_of_mem fun r _ => by omega

/-- The hops before `k`. -/
def upto (n k : Nat) : Finset (Fin n) := Finset.univ.filter fun r => r.val < k

/-- The hops up to and with `k` are `k` and those before it. -/
theorem upto_push {n : Nat} (k : Fin n) : upto n (k.val + 1) = insert k (upto n k.val) := by
  ext r
  simp only [upto, Finset.mem_filter, Finset.mem_univ, true_and, Finset.mem_insert, Fin.ext_iff]
  omega

/-- Hop `k` is not before itself. -/
theorem upto_notMem {n : Nat} (k : Fin n) : k ∉ upto n k.val := by
  simp only [upto, Finset.mem_filter, Finset.mem_univ, true_and]; omega

/-- Before hop `0` there is none. -/
theorem upto_zero (n : Nat) : upto n 0 = ∅ := Finset.filter_false_of_mem fun r _ => by omega

/-- All hops are before the end. -/
theorem upto_end (n : Nat) : upto n n = Finset.univ := Finset.filter_true_of_mem fun r _ => r.isLt

/-- What a unit owes downstream from hop `k` on. -/
def owe (d : Bool) (t : Fin 2) (c : Dev nD) (k : Nat) : CellTallies nD τ sig Unit :=
  ∑ r ∈ from_ 15 k, tallyAt (rCell (nb d c) d t r) () N

/-- What a unit owes before hop `k`'s copy: that copy's credit, and what it owes after. -/
theorem owe_peel (d : Bool) (t : Fin 2) (c : Dev nD) (k : Fin 15) :
    owe d t c k.val = owe d t c (k.val + 1) + tallyAt (rCell (nb d c) d t k) () N := by
  unfold owe
  rw [from_peel k, Finset.sum_insert (from_notMem k), add_comm]

/-- A unit that has made all copies owes nothing. -/
theorem owe_end (d : Bool) (t : Fin 2) (c : Dev nD) (k : Nat) (h : 15 ≤ k) : owe d t c k = 0 := by
  unfold owe; rw [from_end h, Finset.sum_empty]

/-- What the four units owe, each from its own hop on. -/
def owe4 (c : Dev nD) (k₁ k₂ k₃ k₄ : Nat) : CellTallies nD τ sig Unit :=
  owe true 0 c k₁ + owe true 1 c k₂ + owe false 0 c k₃ + owe false 1 c k₄

/-- What a device owes at the start: its copies, and a unit to each neighbour's barrier cell. -/
def O₀ (c : Dev nD) : CellTallies nD τ sig Unit :=
  owe4 c 0 0 0 0 + tallyAt (bCell (nb true c)) () 1 + tallyAt (bCell (nb false c)) () 1

/-- The indices of a cell: one, on the threads that run the kernel. -/
def L (g : GSem nD τ sig) : Finset Unit := if g.1.2 = .tc then {()} else ∅

/-- The level of a semaphore: the barrier's is `1`, hop `r`'s receive semaphores' are `2 + r`, the others' are `0`. -/
def lvOf : SemLoc sig → ℕ
  | .reg _ => 1
  | .dma q => match tagOf q with
    | some (false, _, _, r) => 2 + r.val
    | _ => 0

/-- The level of a cell. -/
def lv (g : GSem nD τ sig) (_ : Unit) : ℕ := lvOf g.2

/-- No other thread has an index. -/
theorem L_of_ne (g : GSem nD τ sig) (h : g.1.2 ≠ .tc) : L g = ∅ := if_neg h

/-- The barrier's level. -/
theorem lv_b (c : Dev nD) (u : Unit) : lv (bCell c) u = 1 := rfl

/-- A receive cell's level. -/
theorem lv_r (c : Dev nD) (d t r) (u : Unit) : lv (rCell c d t r) u = 2 + r.val := by
  show (match tagOf (rSem d t r) with | some (false, _, _, r) => 2 + r.val | _ => 0) = _
  rw [tagOf_r]

/-- A send cell's level. -/
theorem lv_s (c : Dev nD) (d t r) (u : Unit) : lv (sCell c d t r) u = 0 := by
  show (match tagOf (sSem d t r) with | some (false, _, _, r) => 2 + r.val | _ => 0) = _
  rw [tagOf_s]

/-- The level of the staging's cells. -/
theorem lv_low (c : Dev nD) (q : DmaSem sig) (h : q.val < 3) (u : Unit) : lv ((c : Thread nD τ), .dma q) u = 0 := by
  show (match tagOf q with | some (false, _, _, r) => 2 + r.val | _ => 0) = _
  rw [tagOf_low q h]

/-- Everything owed lies above level `n`. -/
def Above (n : ℕ) (O : CellTallies nD τ sig Unit) : Prop := ∀ g u, 0 < O g u → n < lv g u ∧ g.1.2 = .tc

/-- Two debts above a level are above it together. -/
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · rw [h0, Nat.zero_add] at hg; exact h' g u hg
  · exact h g u h0

/-- No debt is above every level. -/
theorem Above.zero (n : ℕ) : Above n 0 := fun g u hg => absurd hg (Nat.lt_irrefl 0)

/-- A debt above a level is above every lower one. -/
theorem Above.mono {n n' : ℕ} {O : CellTallies nD τ sig Unit} (h : Above n O) (hn : n' ≤ n) : Above n' O :=
  fun g u hg => ⟨Nat.lt_of_le_of_lt hn (h g u hg).1, (h g u hg).2⟩

/-- A debt at one cell is above every level below the cell's. -/
theorem Above.tally {n : ℕ} (c : Dev nD) (sm : SemLoc sig) (k : ℕ) (h : n < lv ((c : Thread nD τ), sm) ()) :
    Above n (tallyAt ((c : Thread nD τ), sm) () k) := by
  intro g u hg
  rw [tallyAt_apply] at hg
  by_cases hc : g = ((c : Thread nD τ), sm) ∧ u = ()
  · rw [hc.1]; exact ⟨h, rfl⟩
  · rw [if_neg hc] at hg; exact absurd hg (Nat.lt_irrefl 0)

/-- What a unit owes from hop `k` on is above level `1 + k`. -/
theorem Above.owe (d : Bool) (t : Fin 2) (c : Dev nD) (k : Nat) : Above (1 + k) (owe d t c k) := by
  unfold Ring.owe
  refine Finset.sum_induction _ (Above (1 + k)) (fun _ _ => Above.add) (Above.zero _) fun r hr => ?_
  refine Above.tally _ _ _ ?_
  rw [lv_r]
  have : k ≤ r.val := (Finset.mem_filter.mp hr).2
  omega

/-- The same of the four units together. -/
theorem Above.owe4 (c : Dev nD) (n k₁ k₂ k₃ k₄ : Nat) (h₁ : n ≤ 1 + k₁) (h₂ : n ≤ 1 + k₂) (h₃ : n ≤ 1 + k₃)
    (h₄ : n ≤ 1 + k₄) : Above n (owe4 c k₁ k₂ k₃ k₄) :=
  ((((Above.owe true 0 c k₁).mono h₁).add ((Above.owe true 1 c k₂).mono h₂)).add
    ((Above.owe false 0 c k₃).mono h₃)).add ((Above.owe false 1 c k₄).mono h₄)

/-- All that a device owes at launch is above level `0`. -/
theorem Above.O₀ (c : Dev nD) : Above 0 (O₀ c) :=
  ((Above.owe4 c 0 0 0 0 0 (by omega) (by omega) (by omega) (by omega)).add
    (Above.tally _ _ _ (by rw [lv_b]; decide))).add (Above.tally _ _ _ (by rw [lv_b]; decide))

/-- A device may wait on a cell below all it owes. -/
theorem mayWait_of (c : Dev nD) (sm : SemLoc sig) (n : ℕ) (hl : lv ((c : Thread nD τ), sm) () = n)
    (O : CellTallies nD τ sig Unit) (hO : Above n O) :
    (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by rw [show L g = {()} from if_pos (hO g u hg).2]; exact Finset.mem_singleton_self _)
    (fun p hp => by rw [Finset.mem_singleton.mp hp]; exact hl.le)
    (fun g u hg => (hO g u hg).1)

/-! ## What all devices know -/

/-- Every cell's invariant, under the names `K`, and that every cell is at round 0. -/
def recs (K : Dev nD × Option Tag → ℕ) : sProp 𝕄 :=
  bigSep Finset.univ fun ck : Dev nD × Option Tag => iprop(cellInv ER (Rd m) (K ck) (kcell ck) ∗ reached ER (kcell ck) 0)

/-- The record of the cells can be used any number of times. -/
instance recs_persistent (K : Dev nD × Option Tag → ℕ) : BI.Persistent (recs m K) := by unfold recs; infer_instance

/-- The record at one cell: its invariant, and that its round has begun. -/
theorem recs_at (K : Dev nD × Option Tag → ℕ) (ck : Dev nD × Option Tag) :
    recs m K ⊢ iprop(cellInv ER (Rd m) (K ck) (kcell ck) ∗ reached ER (kcell ck) 0) :=
  bigSep_elim (Finset.mem_univ ck)

/-- A cell's invariant. -/
theorem inv_at (K : Dev nD × Option Tag → ℕ) (ck : Dev nD × Option Tag) :
    recs m K ⊢ cellInv ER (Rd m) (K ck) (kcell ck) := (recs_at m K ck).trans sep_elim_left

/-- A cell's round has begun. -/
theorem reached_at (K : Dev nD × Option Tag → ℕ) (ck : Dev nD × Option Tag) :
    recs m K ⊢ reached ER (kcell ck) 0 := (recs_at m K ck).trans sep_elim_right

end Cert.KernelIdeal.Ring
-- ==== Proof.KernelIdeal.Step.lean ====
/-
# One unit's part in one hop

The state a unit is in before hop `k` (`unitInv`), and that its part in the hop (`stepP`) leads to the state
before hop `k + 1`.
-/
module

public import proofs.«01_k».proof.Proof.KernelIdeal.Protocol

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The loops need no variants. -/
abbrev 𝒱₀ : Variants := Variants.none

/-! ## The state of a unit -/

/-- To wait for hop `r`: the device's positions at the hop's two cells, and the credit it is owed. -/
def posRes (c : Dev nD) (d : Bool) (t : Fin 2) (r : Fin 15) : sProp 𝕄 :=
  iprop(atPos ER (rCell c d t r) 0 ∅ 0 ∗ atPos ER (sCell c d t r) 0 ∅ 0 ∗ cred (tallyAt (rCell c d t r) () N))

/-- To send at hop `r`: the tokens of the duties it pays, and the neighbour's slot at some contents. -/
def sendRes (c : Dev nD) (d : Bool) (t : Fin 2) (r : Fin 15) : sProp 𝕄 :=
  iprop(dutyTok ER (rCell (nb d c) d t r) 0 false ∗ dutyTok ER (sCell c d t r) 0 false
    ∗ ∃ X, slotOwn (nb d c) d t r X)

/-- What a finished hop leaves: the block sent, the slot landed in, and the two cells back at zero. -/
def doneRes (c : Dev nD) (d : Bool) (t : Fin 2) (r : Fin 15) : sProp 𝕄 :=
  iprop(blkOwn c d t r.val (sent m d t r.val c) ∗ slotOwn c d t r (landed m d t r.val c)
    ∗ semVal (rCell c d t r) 0 ∗ semVal (sCell c d t r) 0)

/-- What is under way before hop `k`: the copy of hop `k`, its block lent; after the last hop the result. -/
def curRes (c : Dev nD) (d : Bool) (t : Fin 2) (k : Nat) : sProp 𝕄 :=
  if h : k < 15 then cred (tallyAt (sCell c d t ⟨k, h⟩) () N) else blkOwn c d t 15 (sent m d t 15 c)

/-- The device's own block of hop `r`, not yet added to. -/
def ownRes (c : Dev nD) (d : Bool) (t : Fin 2) (r : Fin 16) : sProp 𝕄 := blkOwn c d t r.val (part m d t r.val c)

/-- A unit before hop `k`. -/
def unitInv (c : Dev nD) (d : Bool) (t : Fin 2) (k : Nat) : sProp 𝕄 :=
  iprop(bigSep (from_ 15 k) (posRes c d t) ∗ bigSep (from_ 15 (k + 1)) (sendRes c d t)
    ∗ bigSep (from_ 16 (k + 1)) (ownRes m c d t) ∗ curRes m c d t k ∗ bigSep (upto 15 k) (doneRes m c d t))

/-- Before the last hop a unit holds the claim to the send cell of the copy in flight. -/
theorem curRes_lt (c : Dev nD) (d : Bool) (t : Fin 2) (r : Fin 15) :
    curRes m c d t r.val = cred (tallyAt (sCell c d t r) () N) := dif_pos r.isLt

/-- After the last hop it holds the block with its result. -/
theorem curRes_end (c : Dev nD) (d : Bool) (t : Fin 2) :
    curRes m c d t 15 = blkOwn c d t 15 (sent m d t 15 c) := dif_neg (by decide)

section Steps

variable (K : Dev nD × Option Tag → ℕ) (c : Dev nD) (d : Bool) (t : Fin 2)

/-- The copy of a hop, its source and target named by equations. -/
theorem wp_copy (r : Fin 15) (n : Dev nD) (hn : n = nb d c) (src : Memref sig .tc .vmem S64x1024 .f32)
    (hs : src = blkM d t (sc d r.val c))
    {hsc : (slotM d t r : Memref sig (Dev.tc n : Thread nD τ).2.kind .vmem S64x1024 .f32).view.ref.isScScratch = false}
    {hsrc : src.view.WordExact} {hdst : (slotM d t r).view.WordExact}
    {hsem : DmaTarget.Typed .vmem (.dma (rSem d t r)) (.remote (Dev.tc n : Thread nD τ) (slotM d t r) (.dma (sSem d t r)) hsc)}
    {α : Type} {Q : α → sProp 𝕄}
    {k : PUnit → Prog (TpuEff nD τ sig (Elt F) Λ₀ .tc) α} (O : CellTallies nD τ sig Unit) (W : Waits sig Unit) :
    iprop(recs m K ∗ blkOwn c d t r.val (sent m d t r.val c) ∗ sendRes c d t r
        ∗ owes (c : Thread nD τ) (O + tallyAt (rCell (nb d c) d t r) () N) W)
      ⊢ iprop(((cred (tallyAt (sCell c d t r) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (slotM d t r) (.dma (sSem d t r)) hsc)
                (.dma (rSem d t r)) hsrc hdst hsem) k) Q) := by
  subst hn
  subst hs
  unfold sendRes blkOwn slotOwn ownsTc owns
  iintro ⟨#HR, ⟨%fs, %hfs, Hs⟩, ⟨HtR, HtS, ⟨%X, %fd, %hfd, Hd⟩⟩, HO⟩
  iapply (Rounds.wp_send_pointsTo 𝒱₀ ER (Rd m) (c : Thread nD τ) none (κ₁ := K (c, some (true, d, t, r)))
    (κ₂ := K (nb d c, some (false, d, t, r))) (r₁ := 0) (r₂ := 0) (d₁ := false) (d₂ := false) (fd := fd)
    (by rw [duties_s]; exact Finset.mem_singleton_self _) (by rw [duties_r]; exact Finset.mem_singleton_self _) () () N
    (by exact credit_slot d t r) rfl rfl O rfl (W := W)
    (by
      rw [pay_s, ← hfs]; exact owns_intro (c : Thread nD τ) _ _ fs)
    (by
      rw [pay_r, landed, nb_nb', ← hfs]
      refine (owns_intro (nb d c : Thread nD τ) (slotM d t r) _ _).trans ?_
      rw [View.read_write_univ]; exact .rfl)) $$ [Hs Hd HO HtS HtR]
  isplitr; · iapply (inv_at m K (c, some (true, d, t, r))); iexact HR
  isplitr; · iapply (inv_at m K (nb d c, some (false, d, t, r))); iexact HR
  isplitl [Hs]; · iexact Hs
  isplitl [Hd]; · iexact Hd
  isplitl [HO]; · iexact HO
  isplitl [HtS]; · iexact HtS
  isplitr; · iapply (reached_at m K (c, some (true, d, t, r))); iexact HR
  isplitl [HtR]; · iexact HtR
  iapply (reached_at m K (nb d c, some (false, d, t, r))); iexact HR

/-- Starting the copy of hop `r`. -/
theorem wp_sendP (r : Fin 15) {α : Type} {Q : α → sProp 𝕄}
    {k : PUnit → Prog (TpuEff nD τ sig (Elt F) Λ₀ .tc) α}
    (O : CellTallies nD τ sig Unit) (W : Waits sig Unit) :
    iprop(recs m K ∗ blkOwn c d t r.val (sent m d t r.val c) ∗ sendRes c d t r
        ∗ owes (c : Thread nD τ) (O + tallyAt (rCell (nb d c) d t r) () N) W)
      ⊢ iprop(((cred (tallyAt (sCell c d t r) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (sendP d t c r >>= k) Q) := by
  unfold sendP
  simp only [Prog.lift, Prog.bind_op, Prog.bind_ret]
  exact wp_copy m K c d t r _ (tgt_eq d c) _ (srcM_eq d t c r) O W

/-- A slot's elements are those its addition reads. -/
theorem slot_set (r : Fin 15) : (slotM d t r).view.set = ((commM d).access (slotR t r)).set :=
  View.set_reshape _ _

/-- The addition, at an offset given by an equation. -/
theorem wp_addAt (r : Fin 15) (j : Fin 16) (off : Fin 2 → Nat)
    (inb : ∀ i, off i + S64x1024.size i ≤ S1024x4096.size i) (h : off = ![64 * j.val, col d t])
    (A B : Vec F S64x1024 .f32) {α : Type} {Q : α → sProp 𝕄}
    {k : PUnit → Prog (TpuEff nD τ sig (Elt F) Λ₀ .tc) α} :
    iprop(ownsTc c (blkM d t j) fullShare A ∗ slotOwn c d t r B)
      ⊢ iprop(((ownsTc c (blkM d t j) fullShare (addf A B) ∗ slotOwn c d t r B)
            -∗ wp frame (wpE (defs₀ (F := F)) 𝒱₀ (c : Thread nD τ) none) Set.univ (k ⟨⟩) Q)
          -∗ wp frame (wpE (defs₀ (F := F)) 𝒱₀ (c : Thread nD τ) none) Set.univ (addAt d t r off inb >>= k) Q) := by
  subst h
  unfold addAt slotOwn ownsTc
  simp only [Prog.lift, Prog.bind_op, Prog.bind_ret]
  iintro ⟨Ha, Hb⟩
  iintro Hk
  ihave Ha := (show owns (c : Thread nD τ) (blkM d t j) fullShare A ⊢ (iprop(∃ f, ⌜(blkM d t j).view.read (Elt F) f = A⌝
    ∗ (accM.access (blkR d t j)).loc (c : Thread nD τ) ↦[(accM.access (blkR d t j)).set]{fullShare} f) : sProp 𝕄) from .rfl) $$ Ha
  ihave Hb := (show owns (c : Thread nD τ) (slotM d t r) fullShare B ⊢ (iprop(∃ f, ⌜(slotM d t r).view.read (Elt F) f = B⌝
    ∗ ((commM d).access (slotR t r)).loc (c : Thread nD τ) ↦[((commM d).access (slotR t r)).set]{fullShare} f) : sProp 𝕄)
      from by rw [← slot_set]; exact .rfl) $$ Hb
  icases Ha with ⟨%fa, %hfa, Ha⟩
  icases Hb with ⟨%fb, %hfb, Hb⟩
  iapply (wp_load_rect 𝒱₀ (c : Thread nD τ) none Set.univ (m := accM) (r := blkR d t j)
    (q := fullShare) (f := fa) (Finset.Subset.refl _)) $$ Ha
  iintro Ha
  iapply (wp_load_rect 𝒱₀ (c : Thread nD τ) none Set.univ (m := commM d) (r := slotR t r)
    (q := fullShare) (f := fb) (Finset.Subset.refl _)) $$ Hb
  iintro Hb
  iapply (wp_load_rect 𝒱₀ (c : Thread nD τ) none Set.univ (m := accM) (r := blkR d t j)
    (q := fullShare) (f := fa) (Finset.Subset.refl _)) $$ Ha
  iintro Ha
  iapply (wp_store 𝒱₀ (c : Thread nD τ) none Set.univ (m := accM) (r := blkR d t j) (Mk := Finset.univ) (f := fa)
    (by rw [View.setOn_univ])) $$ Ha
  iintro Ha
  iapply Hk
  isplitl [Ha]
  · rw [pay2_eq _ _ B ((slot_read d t r fb).trans hfb)]
    have e : (blkM d t j).view.read (Elt F) ((accM.access (blkR d t j)).write (Elt F) fa
        (addf ((accM.access (blkR d t j)).read (Elt F) fa) B) Finset.univ) = addf A B := by
      rw [← hfa]; exact View.read_write_univ _ _
    rw [← e]
    iapply (owns_intro (c : Thread nD τ) (blkM d t j) fullShare ((accM.access (blkR d t j)).write (Elt F) fa
        (addf ((accM.access (blkR d t j)).read (Elt F) fa) B) Finset.univ))
    iexact Ha
  · rw [← hfb]
    iapply (owns_intro (c : Thread nD τ) (slotM d t r) fullShare fb)
    rw [slot_set]
    iexact Hb

/-- The addition of hop `r`. -/
theorem wp_addP (r : Fin 15) {α : Type} {Q : α → sProp 𝕄}
    {k : PUnit → Prog (TpuEff nD τ sig (Elt F) Λ₀ .tc) α} :
    iprop(blkOwn c d t (r.val + 1) (part m d t (r.val + 1) c) ∗ slotOwn c d t r (landed m d t r.val c))
      ⊢ iprop(((blkOwn c d t (r.val + 1) (sent m d t (r.val + 1) c) ∗ slotOwn c d t r (landed m d t r.val c))
            -∗ wp frame (wpE (defs₀ (F := F)) 𝒱₀ (c : Thread nD τ) none) Set.univ (k ⟨⟩) Q)
          -∗ wp frame (wpE (defs₀ (F := F)) 𝒱₀ (c : Thread nD τ) none) Set.univ (addP d t c r >>= k) Q) :=
  wp_addAt c d t r (sc d (r.val + 1) c) _ _ (aOff_eq d t c r) _ _

/-- Awaiting what hop `r` brings: the slot, and the cell back at zero. -/
theorem wp_recv (r : Fin 15) {src : Memref sig .tc .vmem S64x1024 .f32} {hsrc : src.view.WordExact}
    {hdst : (slotM d t r).view.WordExact} {α : Type} {Q : α → sProp 𝕄}
    {k : PUnit → Prog (TpuEff nD τ sig (Elt F) Λ₀ .tc) α}
    (O : CellTallies nD τ sig Unit) (hO : Above (2 + r.val) O) (W : Waits sig Unit) :
    iprop(recs m K ∗ levAts L lv ∗ atPos ER (rCell c d t r) 0 ∅ 0 ∗ cred (tallyAt (rCell c d t r) () N)
        ∗ owes (c : Thread nD τ) O W)
      ⊢ iprop(((slotOwn c d t r (landed m d t r.val c) ∗ semVal (rCell c d t r) 0 ∗ ∃ W', owes (c : Thread nD τ) O W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rSem d t r) src (slotM d t r) hsrc hdst) k) Q) := by
  iintro ⟨#HR, #Hlev, Hat, Hc, HO⟩
  iintro Hk
  iapply (Rounds.wp_wait_rest_token 𝒱₀ ER (Rd m) (c : Thread nD τ) none (κ := K (c, some (false, d, t, r)))
      (wpE_waitDma2_eq 𝒱₀ (c : Thread nD τ) none Set.univ) (Set.mem_univ _) () (O := O) (W := W) (R := 0) (m := 0)
      (T := ∅) (by rw [Nat.zero_add, expect_r])) $$ [Hc HO Hat]
  · isplitr; · iapply (inv_at m K (c, some (false, d, t, r))); iexact HR
    isplitl [Hc]; · iexact Hc
    isplitl [HO]; · iexact HO
    isplitr; · iapply (mayWait_of c _ _ (lv_r c d t r ()) O hO); iexact Hlev
    iexact Hat
  iintro ⟨HO, Hat, -, Hpay⟩
  ihave Hp := (Entails.of_eq (rest_r m c d t r)) $$ Hpay
  imod (Rounds.cell_close ER (Rd m) (Set.mem_univ (K (c, some (false, d, t, r)))) (fun h => h) (R := 0 + 1)
    (duties_later m (rCell c d t r))) $$ [Hat] with Hz
  · isplitr; · iapply (inv_at m K (c, some (false, d, t, r))); iexact HR
    iexact Hat
  iapply Hk
  isplitl [Hp]; · iexact Hp
  isplitl [Hz]; · iexact Hz
  iexists _; iexact HO

/-- Awaiting that hop `r`'s block has left: the block back, and the cell back at zero. -/
theorem wp_left (r : Fin 15) {src : Memref sig .tc .vmem S64x1024 .f32} {hsrc : src.view.WordExact}
    {dst : Memref sig .tc .vmem S64x1024 .f32} (hN : dst.view.dmaCredit = N)
    {hdst : dst.view.WordExact} {α : Type} {Q : α → sProp 𝕄}
    {k : PUnit → Prog (TpuEff nD τ sig (Elt F) Λ₀ .tc) α}
    (O : CellTallies nD τ sig Unit) (hO : Above 0 O) (W : Waits sig Unit) :
    iprop(recs m K ∗ levAts L lv ∗ atPos ER (sCell c d t r) 0 ∅ 0 ∗ cred (tallyAt (sCell c d t r) () N)
        ∗ owes (c : Thread nD τ) O W)
      ⊢ iprop(((blkOwn c d t r.val (sent m d t r.val c) ∗ semVal (sCell c d t r) 0 ∗ ∃ W', owes (c : Thread nD τ) O W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sSem d t r) src dst hsrc hdst) k) Q) := by
  iintro ⟨#HR, #Hlev, Hat, Hc, HO⟩
  iintro Hk
  iapply (Rounds.wp_wait_rest_token 𝒱₀ ER (Rd m) (c : Thread nD τ) none (κ := K (c, some (true, d, t, r)))
      (wpE_waitDma2_eq 𝒱₀ (c : Thread nD τ) none Set.univ) (Set.mem_univ _) () (O := O) (W := W) (R := 0) (m := 0)
      (T := ∅) (by rw [Nat.zero_add, expect_s])) $$ [Hc HO Hat]
  · isplitr; · iapply (inv_at m K (c, some (true, d, t, r))); iexact HR
    isplitl [Hc]; · iexact Hc
    isplitl [HO]; · iexact HO
    isplitr; · iapply (mayWait_of c _ _ (lv_s c d t r ()) O hO); iexact Hlev
    iexact Hat
  iintro ⟨HO, Hat, -, Hpay⟩
  ihave Hp := (Entails.of_eq (rest_s m c d t r)) $$ Hpay
  imod (Rounds.cell_close ER (Rd m) (Set.mem_univ (K (c, some (true, d, t, r)))) (fun h => h) (R := 0 + 1)
    (duties_later m (sCell c d t r))) $$ [Hat] with Hz
  · isplitr; · iapply (inv_at m K (c, some (true, d, t, r))); iexact HR
    iexact Hat
  iapply Hk
  isplitl [Hp]; · iexact Hp
  isplitl [Hz]; · iexact Hz
  iexists _; iexact HO

end Steps

end Cert.KernelIdeal.Ring
-- ==== Proof.KernelIdeal.Hop.lean ====
/-
# A hop

A unit's part in hop `r` leads from its state before the hop to its state after; and so the four units' parts, and
the fifteen hops.
-/
module

public import proofs.«01_k».proof.Proof.KernelIdeal.Step
public import Mathlib.Tactic.Abel

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over the hops from `k` on: hop `k`'s member, and the later ones. -/
theorem bigSep_from {n : Nat} (Φ : Fin n → sProp 𝕄) (k : Fin n) :
    bigSep (from_ n k.val) Φ = iprop(Φ k ∗ bigSep (from_ n (k.val + 1)) Φ) := by
  rw [from_peel k]; exact bigSep_insert (from_notMem k)

/-- A family over the hops up to and with `k`: hop `k`'s member, and the earlier ones. -/
theorem bigSep_upto {n : Nat} (Φ : Fin n → sProp 𝕄) (k : Fin n) :
    bigSep (upto n (k.val + 1)) Φ = iprop(Φ k ∗ bigSep (upto n k.val) Φ) := by
  rw [upto_push k]; exact bigSep_insert (upto_notMem k)

/-- When no copy is left, a unit holds the block with its result. -/
theorem curRes_ge (c : Dev nD) (d : Bool) (t : Fin 2) (k : Nat) (h : ¬ k < 15) (h' : k ≤ 15) :
    curRes m c d t k = blkOwn c d t k (sent m d t k c) := by
  obtain rfl : k = 15 := by omega
  exact curRes_end m c d t

section Hops

variable (K : Dev nD × Option Tag → ℕ) (c : Dev nD)

/-- A unit's part in hop `r`. Besides its own debt the device owes `O`, all of it to later hops. -/
theorem wp_stepP (d : Bool) (t : Fin 2) (r : Fin 15) {α : Type} {Q : α → sProp 𝕄}
    {k : PUnit → Prog (TpuEff nD τ sig (Elt F) Λ₀ .tc) α} (O : CellTallies nD τ sig Unit) (hO : Above (2 + r.val) O) :
    iprop(recs m K ∗ levAts L lv ∗ unitInv m c d t r.val ∗ ∃ W, owes (c : Thread nD τ) (O + owe d t c (r.val + 1)) W)
      ⊢ iprop(((unitInv m c d t (r.val + 1) ∗ ∃ W, owes (c : Thread nD τ) (O + owe d t c (r.val + 2)) W)
            -∗ wp frame (wpE (defs₀ (F := F)) 𝒱₀ (c : Thread nD τ) none) Set.univ (k ⟨⟩) Q)
          -∗ wp frame (wpE (defs₀ (F := F)) 𝒱₀ (c : Thread nD τ) none) Set.univ (stepP d t c r >>= k) Q) := by
  unfold stepP unitInv
  rw [bigSep_from (posRes c d t) r, show r.val + 1 = r.succ.val from rfl, bigSep_from (ownRes m c d t) r.succ,
    show r.succ.val = r.val + 1 from rfl, curRes_lt, bigSep_upto (doneRes m c d t) r]
  simp only [Prog.lift, Prog.bind_op, Prog.bind_ret, bind_assoc]
  iintro ⟨#HR, #Hlev, ⟨⟨Hp, Hps⟩, Hss, ⟨Ho, Hos⟩, Hc, Hdone⟩, ⟨%W, HO⟩⟩
  iintro Hk
  unfold posRes ownRes doneRes
  icases Hp with ⟨HpR, HpS, HcR⟩
  have hO1 : Above (2 + r.val) (O + owe d t c (r.val + 1)) :=
    hO.add ((Above.owe d t c (r.val + 1)).mono (by omega))
  iapply (wp_recv m K c d t r (src := srcM d t c r) (hsrc := View.wordExact_bits rfl)
    (hdst := (View.wordExact_bits rfl).reshape _ _) (O + owe d t c (r.val + 1)) hO1 W) $$ [HpR HcR HO]
  · isplitr; · iexact HR
    isplitr; · iexact Hlev
    isplitl [HpR]; · iexact HpR
    isplitl [HcR]; · iexact HcR
    iexact HO
  iintro ⟨Hslot, HzR, ⟨%W1, HO⟩⟩
  iapply (wp_addP m c d t r) $$ [Ho Hslot]
  · isplitl [Ho]; · iexact Ho
    iexact Hslot
  iintro ⟨Hb, Hslot⟩
  by_cases h : r.val + 1 < 15
  · simp only [dif_pos h, bind_assoc, Prog.bind_op, Prog.bind_ret]
    have e1 : bigSep (from_ 15 (r.val + 1)) (sendRes (F := F) c d t)
        = iprop(sendRes c d t ⟨r.val + 1, h⟩ ∗ bigSep (from_ 15 (r.val + 2)) (sendRes c d t)) :=
      bigSep_from (sendRes c d t) ⟨r.val + 1, h⟩
    have e2 : owe d t c (r.val + 1) = owe d t c (r.val + 2) + tallyAt (rCell (nb d c) d t ⟨r.val + 1, h⟩) () N :=
      owe_peel d t c ⟨r.val + 1, h⟩
    have e3 : curRes m c d t (r.val + 1) = cred (tallyAt (sCell c d t ⟨r.val + 1, h⟩) () N) :=
      curRes_lt m c d t ⟨r.val + 1, h⟩
    rw [e2, ← add_assoc, e3]
    ihave Hss := (Entails.of_eq e1) $$ Hss
    icases Hss with ⟨Hs, Hss⟩
    iapply (wp_sendP m K c d t ⟨r.val + 1, h⟩ (O + owe d t c (r.val + 2)) W1) $$ [Hb Hs HO]
    · isplitr; · iexact HR
      isplitl [Hb]; · iexact Hb
      isplitl [Hs]; · iexact Hs
      iexact HO
    iintro ⟨Hc', HO⟩
    have hO2 : Above 0 (O + owe d t c (r.val + 2)) :=
      (hO.mono (Nat.zero_le _)).add ((Above.owe d t c (r.val + 2)).mono (by omega))
    iapply (wp_left m K c d t r (src := slotM d t r) (hsrc := (View.wordExact_bits rfl).reshape _ _)
      (hdst := View.wordExact_bits rfl) (credit_src d t c r) (O + owe d t c (r.val + 2)) hO2 W1) $$ [HpS Hc HO]
    · isplitr; · iexact HR
      isplitr; · iexact Hlev
      isplitl [HpS]; · iexact HpS
      isplitl [Hc]; · iexact Hc
      iexact HO
    iintro ⟨Hb0, HzS, HO⟩
    iapply Hk
    isplitr [HO]
    · isplitl [Hps]; · iexact Hps
      isplitl [Hss]; · iexact Hss
      isplitl [Hos]; · iexact Hos
      isplitl [Hc']; · iexact Hc'
      isplitr [Hdone]
      · isplitl [Hb0]; · iexact Hb0
        isplitl [Hslot]; · iexact Hslot
        isplitl [HzR]; · iexact HzR
        iexact HzS
      iexact Hdone
    iexact HO
  · simp only [dif_neg h, pure_bind, Prog.bind_op, Prog.bind_ret]
    have hr := r.isLt
    rw [curRes_ge m c d t (r.val + 1) h (by omega), owe_end d t c (r.val + 2) (by omega),
      from_end (n := 15) (k := r.val + 1 + 1) (by omega), from_end (n := 15) (k := r.val + 1) (by omega),
      owe_end d t c (r.val + 1) (by omega)]
    have hO2 : Above 0 (O + 0) := (hO.mono (Nat.zero_le _)).add (Above.zero 0)
    iapply (wp_left m K c d t r (src := slotM d t r) (hsrc := (View.wordExact_bits rfl).reshape _ _)
      (hdst := View.wordExact_bits rfl) (credit_src d t c r) (O + 0) hO2 W1) $$ [HpS Hc HO]
    · isplitr; · iexact HR
      isplitr; · iexact Hlev
      isplitl [HpS]; · iexact HpS
      isplitl [Hc]; · iexact Hc
      iexact HO
    iintro ⟨Hb0, HzS, HO⟩
    iapply Hk
    isplitr [HO]
    · isplitl [Hps]; · iexact Hps
      isplitl [Hss]; · iexact Hss
      isplitl [Hos]; · iexact Hos
      isplitl [Hb]; · iexact Hb
      isplitr [Hdone]
      · isplitl [Hb0]; · iexact Hb0
        isplitl [Hslot]; · iexact Hslot
        isplitl [HzR]; · iexact HzR
        iexact HzS
      iexact Hdone
    iexact HO

/-- The four units before hop `k`. -/
def allInv (k : Nat) : sProp 𝕄 :=
  iprop(unitInv m c true 0 k ∗ unitInv m c true 1 k ∗ unitInv m c false 0 k ∗ unitInv m c false 1 k)

/-- One hop. -/
theorem wp_hopP (r : Fin 15) {α : Type} {Q : α → sProp 𝕄}
    {k : PUnit → Prog (TpuEff nD τ sig (Elt F) Λ₀ .tc) α} :
    iprop(recs m K ∗ levAts L lv ∗ allInv m c r.val
        ∗ ∃ W, owes (c : Thread nD τ) (owe4 c (r.val + 1) (r.val + 1) (r.val + 1) (r.val + 1)) W)
      ⊢ iprop(((allInv m c (r.val + 1)
              ∗ ∃ W, owes (c : Thread nD τ) (owe4 c (r.val + 2) (r.val + 2) (r.val + 2) (r.val + 2)) W)
            -∗ wp frame (wpE (defs₀ (F := F)) 𝒱₀ (c : Thread nD τ) none) Set.univ (k ⟨⟩) Q)
          -∗ wp frame (wpE (defs₀ (F := F)) 𝒱₀ (c : Thread nD τ) none) Set.univ (hopP c r >>= k) Q) := by
  unfold hopP allInv
  simp only [bind_assoc]
  have ab (d t) : Above (2 + r.val) (owe d t c (r.val + 1)) := (Above.owe d t c (r.val + 1)).mono (by omega)
  have ab' (d t) : Above (2 + r.val) (owe d t c (r.val + 2)) := (Above.owe d t c (r.val + 2)).mono (by omega)
  iintro ⟨#HR, #Hlev, ⟨H1, H2, H3, H4⟩, HO⟩
  iintro Hk
  rw [show owe4 c (r.val + 1) (r.val + 1) (r.val + 1) (r.val + 1) = owe true 1 c (r.val + 1)
    + owe false 0 c (r.val + 1) + owe false 1 c (r.val + 1) + owe true 0 c (r.val + 1) by unfold owe4; abel]
  iapply (wp_stepP m K c true 0 r _ (((ab true 1).add (ab false 0)).add (ab false 1))) $$ [H1 HO]
  · isplitr; · iexact HR
    isplitr; · iexact Hlev
    isplitl [H1]; · iexact H1
    iexact HO
  iintro ⟨H1, HO⟩
  rw [show owe true 1 c (r.val + 1) + owe false 0 c (r.val + 1) + owe false 1 c (r.val + 1) + owe true 0 c (r.val + 2)
    = owe true 0 c (r.val + 2) + owe false 0 c (r.val + 1) + owe false 1 c (r.val + 1) + owe true 1 c (r.val + 1) by abel]
  iapply (wp_stepP m K c true 1 r _ (((ab' true 0).add (ab false 0)).add (ab false 1))) $$ [H2 HO]
  · isplitr; · iexact HR
    isplitr; · iexact Hlev
    isplitl [H2]; · iexact H2
    iexact HO
  iintro ⟨H2, HO⟩
  rw [show owe true 0 c (r.val + 2) + owe false 0 c (r.val + 1) + owe false 1 c (r.val + 1) + owe true 1 c (r.val + 2)
    = owe true 0 c (r.val + 2) + owe true 1 c (r.val + 2) + owe false 1 c (r.val + 1) + owe false 0 c (r.val + 1) by abel]
  iapply (wp_stepP m K c false 0 r _ (((ab' true 0).add (ab' true 1)).add (ab false 1))) $$ [H3 HO]
  · isplitr; · iexact HR
    isplitr; · iexact Hlev
    isplitl [H3]; · iexact H3
    iexact HO
  iintro ⟨H3, HO⟩
  rw [show owe true 0 c (r.val + 2) + owe true 1 c (r.val + 2) + owe false 1 c (r.val + 1) + owe false 0 c (r.val + 2)
    = owe true 0 c (r.val + 2) + owe true 1 c (r.val + 2) + owe false 0 c (r.val + 2) + owe false 1 c (r.val + 1) by abel]
  iapply (wp_stepP m K c false 1 r _ (((ab' true 0).add (ab' true 1)).add (ab' false 0))) $$ [H4 HO]
  · isplitr; · iexact HR
    isplitr; · iexact Hlev
    isplitl [H4]; · iexact H4
    iexact HO
  iintro ⟨H4, HO⟩
  iapply Hk
  isplitr [HO]
  · isplitl [H1]; · iexact H1
    isplitl [H2]; · iexact H2
    isplitl [H3]; · iexact H3
    iexact H4
  iexact HO

/-- The first `n` hops. -/
theorem wp_hopsP (n : Nat) (hn : n ≤ 15) {α : Type} {Q : α → sProp 𝕄}
    {k : PUnit → Prog (TpuEff nD τ sig (Elt F) Λ₀ .tc) α} :
    iprop(recs m K ∗ levAts L lv ∗ allInv m c 0 ∗ ∃ W, owes (c : Thread nD τ) (owe4 c 1 1 1 1) W)
      ⊢ iprop(((allInv m c n ∗ ∃ W, owes (c : Thread nD τ) (owe4 c (n + 1) (n + 1) (n + 1) (n + 1)) W)
            -∗ wp frame (wpE (defs₀ (F := F)) 𝒱₀ (c : Thread nD τ) none) Set.univ (k ⟨⟩) Q)
          -∗ wp frame (wpE (defs₀ (F := F)) 𝒱₀ (c : Thread nD τ) none) Set.univ (hopsP c n hn >>= k) Q) := by
  induction n generalizing k with
  | zero =>
    unfold hopsP
    rw [pure_bind]
    iintro ⟨-, -, H⟩
    iintro Hk
    iapply Hk
    iexact H
  | succ n ih =>
    unfold hopsP
    rw [bind_assoc]
    iintro ⟨#HR, #Hlev, H⟩
    iintro Hk
    iapply (ih (Nat.le_of_succ_le hn)) $$ [H]
    · isplitr; · iexact HR
      isplitr; · iexact Hlev
      iexact H
    iintro ⟨HI, HO⟩
    iapply (wp_hopP m K c ⟨n, hn⟩) $$ [HI HO]
    · isplitr; · iexact HR
      isplitr; · iexact Hlev
      isplitl [HI]; · iexact HI
      iexact HO
    iexact Hk

end Hops

end Cert.KernelIdeal.Ring
-- ==== Proof.KernelIdeal.Split.lean ====
/-
# Buffers as families of blocks

The accumulator is the conjunction of its sixty-four blocks, a landing buffer that of its thirty slots. Both
directions: a buffer handed out in parts, and the parts glued into a buffer again.
-/
module

public import proofs.«01_k».proof.Proof.KernelIdeal.Hop

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Gluing -/

/-- Contents given block by block over disjoint blocks that cover are the blocks of one contents. -/
theorem exists_glue {T : Type} {sh : Shape} {V : Type} (r : T → Rect sh)
    (hd : ∀ t t', t ≠ t' → Disjoint (r t).set (r t').set) (hcov : ∀ i, ∃ t, i ∈ (r t).set)
    (Y : ∀ t, (r t).shape.Idx → V) : ∃ X : sh.Idx → V, ∀ t j, X ((r t).emb j) = Y t j := by
  have one (i : sh.Idx) : ∃ v : V, ∀ t (j : (r t).shape.Idx), (r t).emb j = i → Y t j = v := by
    obtain ⟨t₀, h₀⟩ := hcov i
    obtain ⟨j₀, hj₀⟩ := (r t₀).exists_idx_of_mem h₀
    refine ⟨Y t₀ j₀, fun t j hj => ?_⟩
    have ht : t = t₀ := by
      by_contra hne
      exact Finset.disjoint_left.mp (hd t t₀ hne) (hj ▸ (r t).toLoadRect.idx_mem j) h₀
    subst ht
    rw [(r t).emb.injective (hj.trans hj₀.symm)]
  choose X hX using one
  exact ⟨X, fun t j => (hX _ t j rfl).symm⟩

/-- Rectangles that reach every element have the whole array as their union. -/
theorem cover_univ {T : Type} [Fintype T] {sh : Shape} (r : T → Rect sh) (hcov : ∀ i, ∃ t, i ∈ (r t).set) :
    (Finset.univ : Finset T).biUnion (fun t => (r t).set) = Finset.univ :=
  Finset.eq_univ_iff_forall.mpr fun i => Finset.mem_biUnion.mpr ((hcov i).imp fun t h => ⟨Finset.mem_univ t, h⟩)

/-! ## Families by unit -/

/-- A family over units is its four members. -/
theorem bigSep_units (P : UIx → sProp 𝕄) : bigSep Finset.univ P
    = iprop(P (true, 0) ∗ P (true, 1) ∗ P (false, 0) ∗ P (false, 1)) :=
  bigSep_univ_eq_bigSepL [(true, 0), (true, 1), (false, 0), (false, 1)] (by decide) (by decide) P

/-- A family over two sides is its two members. -/
theorem bigSep_bool (P : Bool → sProp 𝕄) : bigSep Finset.univ P = iprop(P true ∗ P false) :=
  bigSep_univ_eq_bigSepL [true, false] (by decide) (by decide) P

/-- A family over units and an index, unit by unit. -/
theorem bigSep_unitsX {n : Nat} (P : Bool → Fin 2 → Fin n → sProp 𝕄) :
    bigSep Finset.univ (fun u : UIx × Fin n => P u.1.1 u.1.2 u.2)
      = iprop(bigSep Finset.univ (P true 0) ∗ bigSep Finset.univ (P true 1)
          ∗ bigSep Finset.univ (P false 0) ∗ bigSep Finset.univ (P false 1)) := by
  rw [bigSep_univ_prod, bigSep_units]

/-- A family over copies, unit by unit. -/
theorem bigSep_copies (P : Bool → Fin 2 → Fin 15 → sProp 𝕄) :
    bigSep Finset.univ (fun v : Bool × Fin 2 × Fin 15 => P v.1 v.2.1 v.2.2)
      = iprop(bigSep Finset.univ (P true 0) ∗ bigSep Finset.univ (P true 1)
          ∗ bigSep Finset.univ (P false 0) ∗ bigSep Finset.univ (P false 1)) := by
  rw [bigSep_univ_prod, bigSep_bool, bigSep_univ_prod, bigSep_univ_prod, bigSep_fin_two, bigSep_fin_two]
  exact BI.equiv_iff.mp ⟨BI.sep_assoc, BI.sep_assoc'⟩

/-- Sixteen hops are the first fifteen and the result. -/
theorem bigSep_hops (P : Fin 16 → sProp 𝕄) :
    bigSep Finset.univ P = iprop(P 15 ∗ bigSep Finset.univ fun r : Fin 15 => P r.castSucc) := by
  have h : (Finset.univ : Finset (Fin 16)) = insert 15 (Finset.univ.map Fin.castSuccEmb) := by decide
  rw [h, bigSep_insert (by decide), bigSep_map]
  rfl

/-! ## The accumulator -/

/-- The accumulator in blocks, at contents `X`. -/
theorem acc_split (c : Dev nD) (X : Vec F S1024x4096 .f32) :
    (ownsTc c accM fullShare X : sProp 𝕄)
      ⊢ bigSep Finset.univ fun u : UIx × Fin 16 =>
          blkOwn c u.1.1 u.1.2 u.2.val fun j => X ((hopR c u).emb j) := by
  unfold ownsTc blkOwn
  exact owns_rects (c : Thread nD τ) accM fullShare (hopR c) (fun _ _ => rfl) (hopR_disjoint c)
    (cover_univ _ (hopR_cover c)) X

/-- The blocks glued, at the contents of which they are the blocks. -/
theorem acc_join (c : Dev nD) (X : Vec F S1024x4096 .f32) :
    (bigSep Finset.univ fun u : UIx × Fin 16 => blkOwn c u.1.1 u.1.2 u.2.val fun j => X ((hopR c u).emb j) : sProp 𝕄)
      ⊢ ownsTc c accM fullShare X := by
  unfold ownsTc blkOwn
  exact owns_of_rects (c : Thread nD τ) accM fullShare (hopR c) (fun _ _ => rfl) (hopR_disjoint c)
    (cover_univ _ (hopR_cover c)) X

/-- What the accumulator holds at the end: what was sent of each block, and the result of the device's own. -/
theorem accEnd_exists (c : Dev nD) : ∃ X : Vec F S1024x4096 .f32,
    ∀ (u : UIx × Fin 16) j, X ((hopR c u).emb j) = sent m u.1.1 u.1.2 u.2.val c j :=
  exists_glue (hopR c) (hopR_disjoint c) (hopR_cover c) fun u => sent m u.1.1 u.1.2 u.2.val c

/-- The accumulator at the end, put together from the units' last blocks. -/
def accEnd (c : Dev nD) : Vec F S1024x4096 .f32 := Classical.choose (accEnd_exists m c)

/-- In the block of a unit and a hop it holds what the unit sent at that hop, or its result. -/
theorem accEnd_blk (c : Dev nD) (u : UIx × Fin 16) :
    (fun j => accEnd m c ((hopR c u).emb j)) = sent m u.1.1 u.1.2 u.2.val c :=
  funext fun j => Classical.choose_spec (accEnd_exists m c) u j

/-! ## A landing buffer -/

/-- A slot of the buffer is the same memory whether seen as a slice or without its leading axis. -/
theorem slot_of_slice (c : Dev nD) (d : Bool) (t : Fin 2) (r : Fin 15) :
    (iprop(∃ Y, ownsTc c ((commM d).slice (slotR t r) (fun _ => rfl)) fullShare Y) : sProp 𝕄)
      = iprop(∃ X, slotOwn c d t r X) := by
  unfold slotOwn ownsTc
  have h₁ : (iprop(∃ Y, owns (c : Thread nD τ) ((commM d).slice (slotR t r) (fun _ => rfl)) fullShare Y) : sProp 𝕄)
      ⊢ iprop(∃ X, owns (c : Thread nD τ) (slotM d t r) fullShare X) := by
    iintro ⟨%Y, H⟩
    ihave H := (show owns (c : Thread nD τ) ((commM d).slice (slotR t r) (fun _ => rfl)) fullShare Y
      ⊢ (iprop(∃ f, ⌜((commM d).access (slotR t r)).read (Elt F) f = Y⌝
        ∗ ((slotM d t r).view.loc (c : Thread nD τ) ↦[(slotM d t r).view.set]{fullShare} f)) : sProp 𝕄)
        from by rw [slot_set]; exact .rfl) $$ H
    icases H with ⟨%f, -, H⟩
    iexists _
    iapply (owns_intro (c : Thread nD τ) (slotM d t r) fullShare f)
    iexact H
  have h₂ : (iprop(∃ X, owns (c : Thread nD τ) (slotM d t r) fullShare X) : sProp 𝕄)
      ⊢ iprop(∃ Y, owns (c : Thread nD τ) ((commM d).slice (slotR t r) (fun _ => rfl)) fullShare Y) := by
    iintro ⟨%X, H⟩
    ihave H := (show owns (c : Thread nD τ) (slotM d t r) fullShare X
      ⊢ (iprop(∃ f, ⌜(slotM d t r).view.read (Elt F) f = X⌝
        ∗ (((commM d).slice (slotR t r) (fun _ => rfl)).view.loc (c : Thread nD τ)
            ↦[((commM d).slice (slotR t r) (fun _ => rfl)).view.set]{fullShare} f)) : sProp 𝕄)
        from by rw [show ((commM d).slice (slotR t r) (fun _ => rfl)).view.set = (slotM d t r).view.set from
          (slot_set d t r).symm]; exact .rfl) $$ H
    icases H with ⟨%f, -, H⟩
    iexists _
    iapply (owns_intro (c : Thread nD τ) ((commM d).slice (slotR t r) (fun _ => rfl)) fullShare f)
    iexact H
  exact BI.equiv_iff.mp ⟨h₁, h₂⟩

/-- A landing buffer is its slots. -/
theorem comm_split (c : Dev nD) (d : Bool) :
    (commOwn c d : sProp 𝕄) ⊢ bigSep Finset.univ fun u : Fin 2 × Fin 15 => iprop(∃ X, slotOwn c d u.1 u.2 X) := by
  unfold commOwn
  rw [bigSep_congr fun (u : Fin 2 × Fin 15) _ => (slot_of_slice c d u.1 u.2).symm]
  iintro ⟨%X, H⟩
  ihave H := (show ownsTc c (commM d) fullShare X ⊢ (bigSep Finset.univ fun u : Fin 2 × Fin 15 =>
      ownsTc c ((commM d).slice (slotR' u) (fun _ => rfl)) fullShare fun j => X ((slotR' u).emb j) : sProp 𝕄) from
    owns_rects (c : Thread nD τ) (commM d) fullShare slotR' (fun _ _ => rfl) slotR_disjoint
      (cover_univ _ slotR_cover) X) $$ H
  have hX (u : Fin 2 × Fin 15) : ownsTc c ((commM d).slice (slotR' u) (fun _ => rfl)) fullShare
      (fun j => X ((slotR' u).emb j))
      ⊢ (iprop(∃ Y, ownsTc c ((commM d).slice (slotR u.1 u.2) (fun _ => rfl)) fullShare Y) : sProp 𝕄) := by
    iintro H; iexists _; iexact H
  iapply (show (bigSep Finset.univ fun u : Fin 2 × Fin 15 =>
      ownsTc c ((commM d).slice (slotR' u) (fun _ => rfl)) fullShare fun j => X ((slotR' u).emb j) : sProp 𝕄)
      ⊢ bigSep Finset.univ fun u : Fin 2 × Fin 15 =>
          iprop(∃ Y, ownsTc c ((commM d).slice (slotR u.1 u.2) (fun _ => rfl)) fullShare Y) from
    bigSep_mono fun u _ => hX u)
  iexact H

/-- All slots together are the landing buffer. -/
theorem comm_join (c : Dev nD) (d : Bool) :
    (bigSep Finset.univ fun u : Fin 2 × Fin 15 => iprop(∃ X, slotOwn c d u.1 u.2 X) : sProp 𝕄) ⊢ commOwn c d := by
  unfold commOwn
  rw [bigSep_congr fun (u : Fin 2 × Fin 15) _ => (slot_of_slice c d u.1 u.2).symm]
  haveI : ∀ u : Fin 2 × Fin 15, Nonempty ((slotR u.1 u.2).shape.Idx → Elt F .f32) := fun _ =>
    ⟨fun _ => Classical.choice ((inferInstance : ∀ e, Nonempty (Elt F e)) .f32)⟩
  iintro H
  ihave H := (BI.bigSep_exists_pi Finset.univ fun (u : Fin 2 × Fin 15) (Y : (slotR u.1 u.2).shape.Idx → Elt F .f32) =>
    (ownsTc c ((commM d).slice (slotR u.1 u.2) (fun _ => rfl)) fullShare Y : sProp 𝕄)) $$ H
  icases H with ⟨%Y, H⟩
  obtain ⟨X, hX⟩ := exists_glue slotR' slotR_disjoint slotR_cover Y
  iexists X
  iapply (show (bigSep Finset.univ fun u : Fin 2 × Fin 15 =>
      ownsTc c ((commM d).slice (slotR' u) (fun _ => rfl)) fullShare fun j => X ((slotR' u).emb j) : sProp 𝕄)
        ⊢ ownsTc c (commM d) fullShare X from
    owns_of_rects (c : Thread nD τ) (commM d) fullShare slotR' (fun _ _ => rfl) slotR_disjoint
      (cover_univ _ slotR_cover) X)
  rw [bigSep_congr fun (u : Fin 2 × Fin 15) _ => congrArg
    (fun Z => (ownsTc c ((commM d).slice (slotR' u) (fun _ => rfl)) fullShare Z : sProp 𝕄)) (funext fun j => hX u j)]
  iexact H

end Cert.KernelIdeal.Ring
-- ==== Proof.KernelIdeal.Ends.lean ====
/-
# The body's beginning and end

The handshake, the product, the first copies and the last write, each as a rule for the program's next step.
-/
module

public import proofs.«01_k».proof.Proof.KernelIdeal.Split

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Tag → ℕ) (c : Dev nD)

/-- The handshake: the device lends its two landing buffers and is lent its neighbours'. -/
theorem wp_handP {α : Type} {Q : α → sProp 𝕄} {k : PUnit → Prog (TpuEff nD τ sig (Elt F) Λ₀ .tc) α} :
    iprop(recs m K ∗ levAts L lv ∗ commOwn c true ∗ commOwn c false
        ∗ dutyTok ER (bCell (nb false c)) 0 true ∗ dutyTok ER (bCell (nb true c)) 0 false
        ∗ atPos ER (bCell c) 0 ∅ 0 ∗ cred (tallyAt (bCell c) () 2) ∗ ∃ W, owes (c : Thread nD τ) (O₀ c) W)
      ⊢ iprop(((commOwn (nb true c) true ∗ commOwn (nb false c) false ∗ semVal (bCell c) 0
              ∗ ∃ W, owes (c : Thread nD τ) (owe4 c 0 0 0 0) W)
            -∗ wp frame (wpE (defs₀ (F := F)) 𝒱₀ (c : Thread nD τ) none) Set.univ (k ⟨⟩) Q)
          -∗ wp frame (wpE (defs₀ (F := F)) 𝒱₀ (c : Thread nD τ) none) Set.univ (handP c >>= k) Q) := by
  unfold handP
  simp only [semSignalWord, semWaitWord, Prog.lift, Prog.bind_op, Prog.bind_ret, dev1_eq, dev2_eq]
  iintro ⟨#HR, #Hlev, Ht, Hf, HtL, HtR, Hat, Hc, ⟨%W, HO⟩⟩
  iintro Hk
  iapply (Rounds.wp_signal 𝒱₀ ER (Rd m) (c : Thread nD τ) none (dst := (nb false c : Thread nD τ))
      (κ := K (nb false c, none)) (d := true) (by rw [duties_b]; exact Finset.mem_univ _) (by rfl) ()
      (owe4 c 0 0 0 0 + tallyAt (bCell (nb true c)) () 1) rfl) $$ [HO HtL Ht]
  · isplitr; · iapply (inv_at m K (nb false c, none)); iexact HR
    isplitl [HO]; · iexact HO
    isplitl [HtL]; · iexact HtL
    isplitl [Ht]
    · rw [pay_b, show nb true (nb false c) = c from nb_nb true c]; iexact Ht
    iapply (reached_at m K (nb false c, none)); iexact HR
  iintro HO
  iapply (Rounds.wp_signal 𝒱₀ ER (Rd m) (c : Thread nD τ) none (dst := (nb true c : Thread nD τ))
      (κ := K (nb true c, none)) (d := false) (by rw [duties_b]; exact Finset.mem_univ _) (by rfl) ()
      (owe4 c 0 0 0 0) rfl) $$ [HO HtR Hf]
  · isplitr; · iapply (inv_at m K (nb true c, none)); iexact HR
    isplitl [HO]; · iexact HO
    isplitl [HtR]; · iexact HtR
    isplitl [Hf]
    · rw [pay_b, show nb false (nb true c) = c from nb_nb false c]; iexact Hf
    iapply (reached_at m K (nb true c, none)); iexact HR
  iintro HO
  iapply (Rounds.wp_wait_rest_token 𝒱₀ ER (Rd m) (c : Thread nD τ) none (κ := K (c, none))
      (wpE_semWait_eq 𝒱₀ (c : Thread nD τ) none Set.univ) (Set.mem_univ _) () (O := owe4 c 0 0 0 0) (W := W)
      (R := 0) (m := 0) (T := ∅) (by rw [expect_b]; decide)) $$ [Hc HO Hat]
  · isplitr; · iapply (inv_at m K (c, none)); iexact HR
    isplitl [Hc]; · iexact Hc
    isplitl [HO]; · iexact HO
    isplitr
    · iapply (mayWait_of c _ 1 (lv_b c ()) _ (Above.owe4 c 1 0 0 0 0 (by omega) (by omega) (by omega) (by omega)))
      iexact Hlev
    iexact Hat
  iintro ⟨HO, Hat, -, Hpay⟩
  ihave Hp := (Entails.of_eq (rest_b m c)) $$ Hpay
  icases Hp with ⟨Hf, Ht⟩
  imod (Rounds.cell_close ER (Rd m) (Set.mem_univ (K (c, none))) (fun h => h) (R := 0 + 1)
    (duties_later m (bCell c))) $$ [Hat] with Hz
  · isplitr; · iapply (inv_at m K (c, none)); iexact HR
    iexact Hat
  iapply Hk
  isplitl [Ht]; · iexact Ht
  isplitl [Hf]; · iexact Hf
  isplitl [Hz]; · iexact Hz
  iexists _; iexact HO

/-- Two zero offsets. -/
theorem zeros : (![0, 0] : Fin 2 → Nat) = fun _ => 0 := funext fun a => by fin_cases a <;> rfl

/-- The product: the accumulator, whatever it held, then holds it. -/
theorem wp_mulP (fa : Buf (Elt F) ((c : Thread nD τ).loc cc0_scratch0)) {α : Type} {Q : α → sProp 𝕄}
    {k : PUnit → Prog (TpuEff nD τ sig (Elt F) Λ₀ .tc) α} :
    iprop(((c : Thread nD τ).loc cc0_stg0_0 ↦{fullShare} xstg m c)
        ∗ ((c : Thread nD τ).loc cc0_stg1_0 ↦{fullShare} ystg m c) ∗ ((c : Thread nD τ).loc cc0_scratch0 ↦{fullShare} fa))
      ⊢ iprop(((((c : Thread nD τ).loc cc0_stg0_0 ↦{fullShare} xstg m c)
              ∗ ((c : Thread nD τ).loc cc0_stg1_0 ↦{fullShare} ystg m c) ∗ ownsTc c accM fullShare (prodAt m c))
            -∗ wp frame (wpE (defs₀ (F := F)) 𝒱₀ (c : Thread nD τ) none) Set.univ (k ⟨⟩) Q)
          -∗ wp frame (wpE (defs₀ (F := F)) 𝒱₀ (c : Thread nD τ) none) Set.univ (mulP >>= k) Q) := by
  have hX (f : (cc0_stg0_0 : Ref sig .tc).ty.Contents (Elt F)) := Memref.readAt_unit_zero (Elt F) cc0_stg0_0 zeros
    inb_S1024x1024_S1024x1024_0_0 f
  have hY (f : (cc0_stg1_0 : Ref sig .tc).ty.Contents (Elt F)) := Memref.readAt_unit_zero (Elt F) cc0_stg1_0 zeros
    inb_S1024x4096_S1024x4096_0_0 f
  have hW (f w : (cc0_scratch0 : Ref sig .tc).ty.Contents (Elt F)) := Memref.write_access_unit_zero_univ (Elt F)
    cc0_scratch0 zeros inb_S1024x4096_S1024x4096_0_0 f w
  have hO : (ownsTc c accM fullShare (prodAt m c) : sProp 𝕄) = ((c : Thread nD τ).loc cc0_scratch0 ↦{fullShare} prodAt m c) :=
    owns_whole (c : Thread nD τ) cc0_scratch0 fullShare (prodAt m c)
  rw [hO]
  unfold mulP
  simp only [Prog.lift, Prog.bind_op, Prog.bind_ret]
  iintro ⟨Hx, Hy, Ha⟩
  iintro Hk
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_stg1_0) (Finset.subset_univ _)) $$ Hy
  iintro Hy
  iapply (wp_load 𝒱₀ (c : Thread nD τ) none Set.univ (m := accM) (Finset.subset_univ _)) $$ Ha
  iintro Ha
  iapply (wp_store 𝒱₀ (c : Thread nD τ) none Set.univ (m := accM)
    (r := Rect.unit (s := S1024x4096) ![0, 0] S1024x4096.size inb_S1024x4096_S1024x4096_0_0)
    (Mk := Finset.univ) (Finset.subset_univ _)) $$ Ha
  iintro Ha
  iapply Hk
  isplitl [Hx]; · iexact Hx
  isplitl [Hy]; · iexact Hy
  iapply (Entails.of_eq (congrArg (fun g => ((c : Thread nD τ).loc cc0_scratch0 ↦{fullShare} g : sProp 𝕄))
    ((hW fa _).trans (congrArg₂ k0_pay1 (hX (xstg m c)) (hY (ystg m c))))))
  iexact Ha

/-- What the kernel computes on device `c`: its rows of the accumulator. -/
def outAt : (cc0_stg2_0 : Ref sig .tc).ty.Contents (Elt F) := fun j =>
  accEnd m c ((Rect.unit (s := S1024x4096) (k0_off9 c) S64x4096.size (k0_off9_inb c)).emb j)

/-- The last write: the output block, whatever it held, then holds the result. -/
theorem wp_lastP (fo : Buf (Elt F) ((c : Thread nD τ).loc cc0_stg2_0)) {α : Type} {Q : α → sProp 𝕄}
    {k : PUnit → Prog (TpuEff nD τ sig (Elt F) Λ₀ .tc) α} :
    iprop(ownsTc c accM fullShare (accEnd m c) ∗ ((c : Thread nD τ).loc cc0_stg2_0 ↦{fullShare} fo))
      ⊢ iprop(((ownsTc c accM fullShare (accEnd m c) ∗ ((c : Thread nD τ).loc cc0_stg2_0 ↦{fullShare} outAt m c))
            -∗ wp frame (wpE (defs₀ (F := F)) 𝒱₀ (c : Thread nD τ) none) Set.univ (k ⟨⟩) Q)
          -∗ wp frame (wpE (defs₀ (F := F)) 𝒱₀ (c : Thread nD τ) none) Set.univ (lastP c >>= k) Q) := by
  have hW (f w : (cc0_stg2_0 : Ref sig .tc).ty.Contents (Elt F)) := Memref.write_access_unit_zero_univ (Elt F)
    cc0_stg2_0 zeros inb_S64x4096_S64x4096_0_0 f w
  have hO : (ownsTc c accM fullShare (accEnd m c) : sProp 𝕄) = ((c : Thread nD τ).loc cc0_scratch0 ↦{fullShare} accEnd m c) :=
    owns_whole (c : Thread nD τ) cc0_scratch0 fullShare (accEnd m c)
  rw [hO]
  unfold lastP
  simp only [Prog.lift, Prog.bind_op, Prog.bind_ret]
  iintro ⟨Ha, Ho⟩
  iintro Hk
  iapply (wp_load 𝒱₀ (c : Thread nD τ) none Set.univ (m := accM) (Finset.subset_univ _)) $$ Ha
  iintro Ha
  iapply (wp_load 𝒱₀ (c : Thread nD τ) none Set.univ (m := Memref.whole cc0_stg2_0) (Finset.subset_univ _)) $$ Ho
  iintro Ho
  iapply (wp_store 𝒱₀ (c : Thread nD τ) none Set.univ (m := Memref.whole cc0_stg2_0)
    (r := Rect.unit (s := S64x4096) ![0, 0] S64x4096.size inb_S64x4096_S64x4096_0_0)
    (Mk := Finset.univ) (Finset.subset_univ _)) $$ Ho
  iintro Ho
  iapply Hk
  isplitl [Ha]; · iexact Ha
  iapply (Entails.of_eq (congrArg (fun g => ((c : Thread nD τ).loc cc0_stg2_0 ↦{fullShare} g : sProp 𝕄))
    (hW fo (outAt m c))))
  iexact Ho

/-! ## The first copies -/

/-- What a unit starts with: its waits and sends, and its sixteen blocks of the product. -/
def unitStart (d : Bool) (t : Fin 2) : sProp 𝕄 :=
  iprop(bigSep Finset.univ (posRes c d t) ∗ bigSep Finset.univ (sendRes c d t) ∗ bigSep Finset.univ (ownRes m c d t))

/-- A unit's first copy. -/
theorem wp_first (d : Bool) (t : Fin 2) (O : CellTallies nD τ sig Unit) (W : Waits sig Unit) {α : Type}
    {Q : α → sProp 𝕄} {k : PUnit → Prog (TpuEff nD τ sig (Elt F) Λ₀ .tc) α} :
    iprop(recs m K ∗ unitStart m c d t ∗ owes (c : Thread nD τ) (O + owe d t c 0) W)
      ⊢ iprop(((unitInv m c d t 0 ∗ owes (c : Thread nD τ) (O + owe d t c 1) W)
            -∗ wp frame (wpE (defs₀ (F := F)) 𝒱₀ (c : Thread nD τ) none) Set.univ (k ⟨⟩) Q)
          -∗ wp frame (wpE (defs₀ (F := F)) 𝒱₀ (c : Thread nD τ) none) Set.univ (sendP d t c 0 >>= k) Q) := by
  have e1 : bigSep Finset.univ (sendRes (F := F) c d t)
      = iprop(sendRes c d t 0 ∗ bigSep (from_ 15 (0 + 1)) (sendRes c d t)) := by
    rw [← from_zero]; exact bigSep_from (sendRes c d t) 0
  have e2 : bigSep Finset.univ (ownRes m c d t)
      = iprop(ownRes m c d t 0 ∗ bigSep (from_ 16 (0 + 1)) (ownRes m c d t)) := by
    rw [← from_zero]; exact bigSep_from (ownRes m c d t) 0
  have e3 : owe d t c 0 = owe d t c 1 + tallyAt (rCell (nb d c) d t 0) () N := owe_peel d t c 0
  unfold unitStart unitInv
  rw [e1, e2, e3, ← add_assoc, from_zero, upto_zero, bigSep_empty, show curRes m c d t 0 = _ from curRes_lt m c d t 0]
  iintro ⟨#HR, ⟨Hp, ⟨Hs, Hss⟩, Ho, Hos⟩, HO⟩
  iintro Hk
  ihave Ho := (show ownRes m c d t 0 ⊢ blkOwn c d t (0 : Fin 15).val (sent m d t (0 : Fin 15).val c) from .rfl) $$ Ho
  iapply (wp_sendP m K c d t 0 (O + owe d t c 1) W) $$ [Hs Ho HO]
  · isplitr; · iexact HR
    isplitl [Ho]; · iexact Ho
    isplitl [Hs]; · iexact Hs
    iexact HO
  iintro ⟨Hc, HO⟩
  iapply Hk
  isplitr [HO]
  · isplitl [Hp]; · iexact Hp
    isplitl [Hss]; · iexact Hss
    isplitl [Hos]; · iexact Hos
    isplitl [Hc]; · iexact Hc
    iempintro
  iexact HO

end Cert.KernelIdeal.Ring
-- ==== Proof.KernelIdeal.Units.lean ====
/-
# From a device's resources to its four units, and back

What a device is dealt, borrowed and computed makes up the four units' starting states; what the four units end
with is the whole accumulator, both landing buffers, and every copy's cell at zero.
-/
module

public import proofs.«01_k».proof.Proof.KernelIdeal.Ends

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A copy of a device: its direction, column half and hop. -/
abbrev Copy : Type := Bool × Fin 2 × Fin 15

/-- The device's positions at its copies' cells. -/
def copyPos : sProp 𝕄 :=
  iprop(bigSep Finset.univ (fun v : Copy => atPos ER (rCell c v.1 v.2.1 v.2.2) 0 ∅ 0)
    ∗ bigSep Finset.univ (fun v : Copy => atPos ER (sCell c v.1 v.2.1 v.2.2) 0 ∅ 0))

/-- The credit it is owed for what its copies' upstream twins bring. -/
def copyCred : sProp 𝕄 := bigSep Finset.univ fun v : Copy => cred (tallyAt (rCell c v.1 v.2.1 v.2.2) () N)

/-- The tokens of the duties its copies pay. -/
def copyToks : sProp 𝕄 :=
  iprop(bigSep Finset.univ (fun v : Copy => dutyTok ER (rCell (nb v.1 c) v.1 v.2.1 v.2.2) 0 false)
    ∗ bigSep Finset.univ (fun v : Copy => dutyTok ER (sCell c v.1 v.2.1 v.2.2) 0 false))

/-- Its copies' cells at zero. -/
def copyZeros : sProp 𝕄 :=
  iprop(bigSep Finset.univ (fun v : Copy => semVal (rCell c v.1 v.2.1 v.2.2) 0)
    ∗ bigSep Finset.univ (fun v : Copy => semVal (sCell c v.1 v.2.1 v.2.2) 0))

/-- The copies' positions and credit, unit by unit. -/
theorem pos_units : iprop(copyPos c ∗ copyCred c) ⊢ (iprop(bigSep Finset.univ (posRes c true 0)
    ∗ bigSep Finset.univ (posRes c true 1) ∗ bigSep Finset.univ (posRes c false 0)
    ∗ bigSep Finset.univ (posRes c false 1)) : sProp 𝕄) := by
  rw [← bigSep_copies (fun d t r => posRes c d t r)]
  unfold copyPos copyCred posRes
  rw [bigSep_sep', bigSep_sep']
  iintro ⟨⟨H1, H2⟩, H3⟩
  isplitl [H1]; · iexact H1
  isplitl [H2] <;> iassumption

/-- The tokens of the copies and the neighbours' landing buffers, unit by unit. -/
theorem send_units : iprop(copyToks c ∗ commOwn (nb true c) true ∗ commOwn (nb false c) false)
    ⊢ (iprop(bigSep Finset.univ (sendRes c true 0) ∗ bigSep Finset.univ (sendRes c true 1)
      ∗ bigSep Finset.univ (sendRes c false 0) ∗ bigSep Finset.univ (sendRes c false 1)) : sProp 𝕄) := by
  rw [← bigSep_copies (fun d t r => sendRes c d t r)]
  have hs : (bigSep Finset.univ fun v : Copy => (iprop(∃ X, slotOwn (nb v.1 c) v.1 v.2.1 v.2.2 X) : sProp 𝕄))
      = iprop((bigSep Finset.univ fun u : Fin 2 × Fin 15 => iprop(∃ X, slotOwn (nb true c) true u.1 u.2 X))
        ∗ bigSep Finset.univ fun u : Fin 2 × Fin 15 => iprop(∃ X, slotOwn (nb false c) false u.1 u.2 X)) := by
    rw [bigSep_univ_prod, bigSep_bool]
  unfold copyToks sendRes
  rw [bigSep_sep', bigSep_sep', hs]
  iintro ⟨⟨H1, H2⟩, H3, H4⟩
  isplitl [H1]; · iexact H1
  isplitl [H2]; · iexact H2
  isplitl [H3]
  · iapply (comm_split (nb true c) true); iexact H3
  · iapply (comm_split (nb false c) false); iexact H4

/-- The accumulator with the product, as the units' blocks. -/
theorem own_units : ownsTc c accM fullShare (prodAt m c)
    ⊢ (iprop(bigSep Finset.univ (ownRes m c true 0) ∗ bigSep Finset.univ (ownRes m c true 1)
      ∗ bigSep Finset.univ (ownRes m c false 0) ∗ bigSep Finset.univ (ownRes m c false 1)) : sProp 𝕄) := by
  rw [← bigSep_unitsX (fun d t r => ownRes m c d t r)]
  exact acc_split c (prodAt m c)

/-- The four units' starting states. -/
theorem units_start : iprop(copyPos c ∗ copyCred c ∗ copyToks c ∗ commOwn (nb true c) true ∗ commOwn (nb false c) false
      ∗ ownsTc c accM fullShare (prodAt m c))
    ⊢ (iprop(unitStart m c true 0 ∗ unitStart m c true 1 ∗ unitStart m c false 0 ∗ unitStart m c false 1) : sProp 𝕄) := by
  unfold unitStart
  iintro ⟨HP, HC, HT, Ht, Hf, HA⟩
  ihave HP := (pos_units (F := F) c) $$ [HP HC]
  · isplitl [HP] <;> iassumption
  ihave HS := (send_units (F := F) c) $$ [HT Ht Hf]
  · isplitl [HT]; · iexact HT
    isplitl [Ht] <;> iassumption
  ihave HA := (own_units m c) $$ HA
  icases HP with ⟨P1, P2, P3, P4⟩
  icases HS with ⟨S1, S2, S3, S4⟩
  icases HA with ⟨A1, A2, A3, A4⟩
  isplitl [P1 S1 A1]
  · isplitl [P1]; · iexact P1
    isplitl [S1] <;> iassumption
  isplitl [P2 S2 A2]
  · isplitl [P2]; · iexact P2
    isplitl [S2] <;> iassumption
  isplitl [P3 S3 A3]
  · isplitl [P3]; · iexact P3
    isplitl [S3] <;> iassumption
  isplitl [P4]; · iexact P4
  isplitl [S4] <;> iassumption

/-! ## The end -/

/-- A unit's block of hop `r` at the end; its slot; its two cells. -/
def endBlk (d : Bool) (t : Fin 2) (r : Fin 16) : sProp 𝕄 := blkOwn c d t r.val (sent m d t r.val c)

/-- A slot at the end, at any contents. -/
def endSlot (d : Bool) (t : Fin 2) (r : Fin 15) : sProp 𝕄 := iprop(∃ X, slotOwn c d t r X)

/-- A receive counter at the end. -/
def endR (d : Bool) (t : Fin 2) (r : Fin 15) : sProp 𝕄 := semVal (rCell c d t r) 0

/-- A send counter at the end. -/
def endS (d : Bool) (t : Fin 2) (r : Fin 15) : sProp 𝕄 := semVal (sCell c d t r) 0

/-- What a unit ends with. -/
theorem unit_end (d : Bool) (t : Fin 2) : unitInv m c d t 15
    ⊢ iprop(bigSep Finset.univ (endBlk m c d t) ∗ bigSep Finset.univ (endSlot (F := F) c d t)
        ∗ bigSep Finset.univ (endR (F := F) c d t) ∗ bigSep Finset.univ (endS (F := F) c d t)) := by
  unfold unitInv
  rw [from_end (n := 15) (k := 15) (by omega), from_end (n := 15) (k := 15 + 1) (by omega),
    from_end (n := 16) (k := 15 + 1) (by omega), curRes_end, upto_end, bigSep_empty, bigSep_empty, bigSep_empty,
    bigSep_hops (endBlk m c d t)]
  unfold doneRes endSlot endR endS
  rw [bigSep_sep', bigSep_sep', bigSep_sep']
  iintro ⟨-, -, -, Hb, Hbs, Hs, Hr, Hz⟩
  ihave Hb := (show blkOwn c d t 15 (sent m d t 15 c) ⊢ endBlk m c d t 15 from .rfl) $$ Hb
  isplitl [Hb Hbs]
  · isplitl [Hb]; · iexact Hb
    iexact Hbs
  isplitl [Hs]
  · iapply (show (bigSep Finset.univ fun r : Fin 15 => slotOwn c d t r (landed m d t r.val c) : sProp 𝕄)
      ⊢ bigSep Finset.univ fun r : Fin 15 => iprop(∃ X, slotOwn c d t r X) from bigSep_mono fun r _ => by
        exact (show slotOwn c d t r (landed m d t r.val c) ⊢ (iprop(∃ X, slotOwn c d t r X) : sProp 𝕄) from by
          iintro H; iexists _; iexact H))
    iexact Hs
  isplitl [Hr] <;> iassumption

/-- What the four units end with. -/
theorem units_end : allInv m c 15 ⊢ iprop(ownsTc c accM fullShare (accEnd m c) ∗ commOwn c true ∗ commOwn c false
    ∗ copyZeros c) := by
  have hB : iprop(bigSep Finset.univ (endBlk m c true 0) ∗ bigSep Finset.univ (endBlk m c true 1)
      ∗ bigSep Finset.univ (endBlk m c false 0) ∗ bigSep Finset.univ (endBlk m c false 1))
      ⊢ ownsTc c accM fullShare (accEnd m c) := by
    rw [← bigSep_unitsX (fun d t r => endBlk m c d t r)]
    refine BIBase.Entails.trans (Entails.of_eq (bigSep_congr fun u _ => ?_)) (acc_join c (accEnd m c))
    exact congrArg (fun X => (blkOwn c u.1.1 u.1.2 u.2.val X : sProp 𝕄)) (accEnd_blk m c u).symm
  have hS : iprop(bigSep Finset.univ (endSlot (F := F) c true 0) ∗ bigSep Finset.univ (endSlot (F := F) c true 1)
      ∗ bigSep Finset.univ (endSlot (F := F) c false 0) ∗ bigSep Finset.univ (endSlot (F := F) c false 1))
      ⊢ iprop(commOwn c true ∗ commOwn c false) := by
    rw [← bigSep_copies (fun d t r => endSlot (F := F) c d t r), bigSep_univ_prod, bigSep_bool]
    exact BIClass.sep_mono (comm_join c true) (comm_join c false)
  have hR := Entails.of_eq (bigSep_copies (fun d t r => endR (F := F) c d t r)).symm
  have hZ := Entails.of_eq (bigSep_copies (fun d t r => endS (F := F) c d t r)).symm
  unfold allInv
  iintro ⟨H1, H2, H3, H4⟩
  ihave H1 := (unit_end m c true 0) $$ H1
  ihave H2 := (unit_end m c true 1) $$ H2
  ihave H3 := (unit_end m c false 0) $$ H3
  ihave H4 := (unit_end m c false 1) $$ H4
  icases H1 with ⟨B1, S1, R1, Z1⟩
  icases H2 with ⟨B2, S2, R2, Z2⟩
  icases H3 with ⟨B3, S3, R3, Z3⟩
  icases H4 with ⟨B4, S4, R4, Z4⟩
  ihave HB := hB $$ [B1 B2 B3 B4]
  · isplitl [B1]; · iexact B1
    isplitl [B2]; · iexact B2
    isplitl [B3] <;> iassumption
  ihave HS := hS $$ [S1 S2 S3 S4]
  · isplitl [S1]; · iexact S1
    isplitl [S2]; · iexact S2
    isplitl [S3] <;> iassumption
  icases HS with ⟨HSt, HSf⟩
  isplitl [HB]; · iexact HB
  isplitl [HSt]; · iexact HSt
  isplitl [HSf]; · iexact HSf
  unfold copyZeros
  isplitl [R1 R2 R3 R4]
  · iapply hR
    isplitl [R1]; · iexact R1
    isplitl [R2]; · iexact R2
    isplitl [R3] <;> iassumption
  · iapply hZ
    isplitl [Z1]; · iexact Z1
    isplitl [Z2]; · iexact Z2
    isplitl [Z3] <;> iassumption

end Cert.KernelIdeal.Ring
-- ==== Proof.KernelIdeal.Body.lean ====
/-
# One device's body

The whole body at a symbolic device, from what it is dealt at launch to its result and every counter at zero, and
the launch library's obligation for it.
-/
module

public import proofs.«01_k».proof.Proof.KernelIdeal.Units

@[expose] public section

noncomputable section

namespace Cert.KernelIdeal.Ring

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What a device has at each end -/

/-- What a device holds of the cells: its positions, and the tokens of the duties it pays. -/
def dealt : sProp 𝕄 :=
  iprop(atPos ER (bCell c) 0 ∅ 0 ∗ dutyTok ER (bCell (nb false c)) 0 true ∗ dutyTok ER (bCell (nb true c)) 0 false
    ∗ copyPos c ∗ copyToks c)

/-- What the launch gives it: the records of all cells, its share of them, its credit, and the levels. -/
def start : sProp 𝕄 :=
  iprop((∃ K, recs m K ∗ dealt (F := F) c) ∗ cred (tallyAt (bCell c) () 2) ∗ copyCred c ∗ levAts L lv)

/-- The three scratch buffers at some contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ ∃ f : Buf (Elt F) ((c : Thread nD τ).loc cc0_scratch2), (c : Thread nD τ).loc cc0_scratch2 ↦{fullShare} f)

/-- What a device holds when the body begins. -/
def Φ₀ : sProp 𝕄 := iprop(start m c ∗ scratch c)

/-- What a device holds when the body ends: its scratch buffers and every counter at zero. -/
def Φ₁ : sProp 𝕄 := iprop(scratch c ∗ copyZeros c ∗ semVal (bCell c) 0)

/-- The landing buffer of the units that travel right is the second scratch buffer, at any contents. -/
theorem comm_true : (commOwn c true : sProp 𝕄)
    = iprop(∃ f : Buf (Elt F) ((c : Thread nD τ).loc cc0_scratch1), (c : Thread nD τ).loc cc0_scratch1 ↦{fullShare} f) := by
  unfold commOwn
  exact congrArg _ (funext fun f => owns_whole (c : Thread nD τ) cc0_scratch1 fullShare f)

/-- The landing buffer of the units that travel left is the third scratch buffer, at any contents. -/
theorem comm_false : (commOwn c false : sProp 𝕄)
    = iprop(∃ f : Buf (Elt F) ((c : Thread nD τ).loc cc0_scratch2), (c : Thread nD τ).loc cc0_scratch2 ↦{fullShare} f) := by
  unfold commOwn
  exact congrArg _ (funext fun f => owns_whole (c : Thread nD τ) cc0_scratch2 fullShare f)

/-- After the last hop a device owes its neighbours nothing. -/
theorem owe4_end : owe4 c 16 16 16 16 = 0 := by
  unfold owe4
  rw [owe_end _ _ _ _ (by omega), owe_end _ _ _ _ (by omega), owe_end _ _ _ _ (by omega), owe_end _ _ _ _ (by omega),
    add_zero, add_zero, add_zero]

/-! ## The four first copies -/

/-- The four units start their first copies one after the other; each then stands before hop `0`. -/
theorem wp_firstP (K : Dev nD × Option Tag → ℕ) (W : Waits sig Unit) {α : Type} {Q : α → sProp 𝕄}
    {k : PUnit → Prog (TpuEff nD τ sig (Elt F) Λ₀ .tc) α} :
    iprop(recs m K ∗ (unitStart m c true 0 ∗ unitStart m c true 1 ∗ unitStart m c false 0 ∗ unitStart m c false 1)
        ∗ owes (c : Thread nD τ) (owe4 c 0 0 0 0) W)
      ⊢ iprop(((allInv m c 0 ∗ owes (c : Thread nD τ) (owe4 c 1 1 1 1) W)
            -∗ wp frame (wpE (defs₀ (F := F)) 𝒱₀ (c : Thread nD τ) none) Set.univ (k ⟨⟩) Q)
          -∗ wp frame (wpE (defs₀ (F := F)) 𝒱₀ (c : Thread nD τ) none) Set.univ (firstP c >>= k) Q) := by
  unfold firstP allInv
  simp only [bind_assoc]
  iintro ⟨#HR, ⟨H1, H2, H3, H4⟩, HO⟩
  iintro Hk
  rw [show owe4 c 0 0 0 0 = owe true 1 c 0 + owe false 0 c 0 + owe false 1 c 0 + owe true 0 c 0 by unfold owe4; abel]
  iapply (wp_first m K c true 0 _ W) $$ [H1 HO]
  · isplitr; · iexact HR
    isplitl [H1] <;> iassumption
  iintro ⟨H1, HO⟩
  rw [show owe true 1 c 0 + owe false 0 c 0 + owe false 1 c 0 + owe true 0 c 1
    = owe true 0 c 1 + owe false 0 c 0 + owe false 1 c 0 + owe true 1 c 0 by abel]
  iapply (wp_first m K c true 1 _ W) $$ [H2 HO]
  · isplitr; · iexact HR
    isplitl [H2] <;> iassumption
  iintro ⟨H2, HO⟩
  rw [show owe true 0 c 1 + owe false 0 c 0 + owe false 1 c 0 + owe true 1 c 1
    = owe true 0 c 1 + owe true 1 c 1 + owe false 1 c 0 + owe false 0 c 0 by abel]
  iapply (wp_first m K c false 0 _ W) $$ [H3 HO]
  · isplitr; · iexact HR
    isplitl [H3] <;> iassumption
  iintro ⟨H3, HO⟩
  rw [show owe true 0 c 1 + owe true 1 c 1 + owe false 1 c 0 + owe false 0 c 1
    = owe true 0 c 1 + owe true 1 c 1 + owe false 0 c 1 + owe false 1 c 0 by abel]
  iapply (wp_first m K c false 1 _ W) $$ [H4 HO]
  · isplitr; · iexact HR
    isplitl [H4] <;> iassumption
  iintro ⟨H4, HO⟩
  iapply Hk
  isplitr [HO]
  · isplitl [H1]; · iexact H1
    isplitl [H2]; · iexact H2
    isplitl [H3] <;> iassumption
  iexact HO

/-! ## The body -/

/-- The body's inputs and result about the state. -/
def bodyPre : sProp 𝕄 :=
  iprop(Φ₀ m c ∗ (∃ W, owes (c : Thread nD τ) (O₀ c) W)
    ∗ ((c : Thread nD τ).loc cc0_stg0_0 ↦{fullShare} xstg m c) ∗ ((c : Thread nD τ).loc cc0_stg1_0 ↦{fullShare} ystg m c)
    ∗ ∃ f : Buf (Elt F) ((c : Thread nD τ).loc cc0_stg2_0), (c : Thread nD τ).loc cc0_stg2_0 ↦{fullShare} f)

/-- After the body: nothing is owed, the inputs' staging buffers are unchanged and the output's holds the result. -/
def bodyPost : sProp 𝕄 :=
  iprop(Φ₁ c ∗ (∃ W, owes (c : Thread nD τ) 0 W)
    ∗ ((c : Thread nD τ).loc cc0_stg0_0 ↦{fullShare} xstg m c) ∗ ((c : Thread nD τ).loc cc0_stg1_0 ↦{fullShare} ystg m c)
    ∗ ((c : Thread nD τ).loc cc0_stg2_0 ↦{fullShare} outAt m c))

attribute [local irreducible] hopsP allInv

/-- The body of device `c` runs from `bodyPre` to `bodyPost`. -/
theorem wp_body (Kt : PUnit → sProp 𝕄) :
    iprop(bodyPre m c ∗ (bodyPost m c -∗ Kt ⟨⟩))
      ⊢ wp frame (wpE (defs₀ (F := F)) 𝒱₀ (c : Thread nD τ) none) Set.univ bodyP Kt := by
  unfold bodyP bodyPre Φ₀ start scratch dealt
  rw [← comm_true, ← comm_false]
  simp only [Prog.lift, Prog.bind_op, Prog.bind_ret, wp_deviceId]
  iintro ⟨⟨⟨⟨⟨%K, #HR, Hat, HtL, HtR, HP, HT⟩, HcB, HC, #Hlev⟩, ⟨%fa, Ha⟩, Ht, Hf⟩, HO, Hx, Hy, ⟨%fo, Ho⟩⟩, Hk⟩
  iapply (wp_handP m K c) $$ [Ht Hf HtL HtR Hat HcB HO]
  · isplitr; · iexact HR
    isplitr; · iexact Hlev
    isplitl [Ht]; · iexact Ht
    isplitl [Hf]; · iexact Hf
    isplitl [HtL]; · iexact HtL
    isplitl [HtR]; · iexact HtR
    isplitl [Hat]; · iexact Hat
    isplitl [HcB] <;> iassumption
  iintro ⟨Ht, Hf, Hz, ⟨%W, HO⟩⟩
  iapply (wp_mulP m c fa) $$ [Hx Hy Ha]
  · isplitl [Hx]; · iexact Hx
    isplitl [Hy] <;> iassumption
  iintro ⟨Hx, Hy, Ha⟩
  ihave HU := (units_start m c) $$ [HP HC HT Ht Hf Ha]
  · isplitl [HP]; · iexact HP
    isplitl [HC]; · iexact HC
    isplitl [HT]; · iexact HT
    isplitl [Ht]; · iexact Ht
    isplitl [Hf] <;> iassumption
  iapply (wp_firstP m c K W) $$ [HU HO]
  · isplitr; · iexact HR
    isplitl [HU] <;> iassumption
  iintro ⟨HA, HO⟩
  iapply (wp_hopsP m K c 15 (Nat.le_refl 15)) $$ [HA HO]
  · isplitr; · iexact HR
    isplitr; · iexact Hlev
    isplitl [HA]; · iexact HA
    iexists W; iexact HO
  iintro ⟨HA, ⟨%W', HO⟩⟩
  ihave HE := (units_end m c) $$ HA
  icases HE with ⟨Ha, Ht, Hf, HZ⟩
  rw [← bind_pure (lastP c)]
  iapply (wp_lastP m c fo) $$ [Ha Ho]
  · isplitl [Ha] <;> iassumption
  iintro ⟨Ha, Ho⟩
  rw [Prog.pure_eq_ret, wp_ret]
  imodintro
  iapply Hk
  unfold bodyPost Φ₁ scratch
  rw [← comm_true, ← comm_false]
  isplitl [Ha Ht Hf HZ Hz]
  · isplitl [Ha Ht Hf]
    · isplitl [Ha]
      · iexists (accEnd m c)
        iapply (Entails.of_eq (owns_whole (c : Thread nD τ) cc0_scratch0 fullShare (accEnd m c)))
        iexact Ha
      isplitl [Ht] <;> iassumption
    isplitl [HZ] <;> iassumption
  isplitl [HO]
  · iexists W'
    iapply (Entails.of_eq (congrArg (fun O => (owes (c : Thread nD τ) O W' : sProp 𝕄)) (owe4_end c)))
    iexact HO
  isplitl [Hx]; · iexact Hx
  isplitl [Hy] <;> iassumption

end Cert.KernelIdeal.Ring
-- ==== Proof.KernelIdeal.Cells.lean ====
/-
# The launch's ghost state

Every device's cells, what is minted of them, and how it is dealt: the barrier tokens one device round the ring
either way, a receive cell's token to the neighbour upstream, everything else to its own device. And the credit a
device is owed, counted from what all devices owe.
-/
module

public import proofs.«01_k».proof.Proof.KernelIdeal.Body
public import proofs.«01_k».proof.Proof.Gen.KernelIdeal.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores. -/
abbrev osem : Tag → SemLoc sig := fun x => .dma (semOf x)

/-- The copies' semaphores are scoped to the kernel, distinct, and none of them stages a window. -/
theorem ownSemFacts : Pipeline.OwnSemFacts cfg0.spec osem where
  isScoped := by decide +kernel
  inj := fun x y h => semOf_inj x y (SemLoc.dma.inj h)
  disj := fun x w s h => by
    have hv : (semOf x).val = ((cfg0.spec w).sem s).val := congrArg Fin.val (SemLoc.dma.inj h)
    have hw : ((cfg0.spec w).sem s).val < 3 := by clear hv h; revert w s; decide
    rw [semOf_val] at hv
    omega

/-- Different tags name different semaphores of a device. -/
theorem csem_injective : Function.Injective csem := by
  rintro (_ | x) (_ | y) h
  · rfl
  · cases h
  · cases h
  · exact congrArg some (semOf_inj x y (SemLoc.dma.inj h))

/-- Different pairs of a device and a tag name different cells. -/
theorem kcell_injective : Function.Injective kcell := by
  rintro ⟨c, k⟩ ⟨c', k'⟩ h
  exact Prod.ext (congrArg (fun g : GSem nD τ sig => g.1.1) h) (csem_injective (congrArg Prod.snd h))

/-- All cells of the ring: on each device the barrier and one cell for every tag. -/
def ringCells : Finset (GSem nD τ sig) := Finset.univ.map ⟨kcell, kcell_injective⟩

/-- The tokens minted for a device's cells: the barrier's two duties, and each copy cell's one. -/
abbrev tokAt : Dev nD × (Bool ⊕ Tag) → GSem nD τ sig × ℕ × Bool
  | (c, .inl b) => (bCell c, 0, b)
  | (c, .inr x) => (kcell (c, some x), 0, false)

/-- Different duties have different tokens. -/
theorem tokAt_injective : Function.Injective tokAt := by
  rintro ⟨c, b | x⟩ ⟨c', b' | x'⟩ h
  · exact Prod.ext (congrArg (fun g : GSem nD τ sig × ℕ × Bool => g.1.1.1) h)
      (congrArg Sum.inl (congrArg (fun g : GSem nD τ sig × ℕ × Bool => g.2.2) h))
  · exact absurd (congrArg (fun g : GSem nD τ sig × ℕ × Bool => g.1.2) h) (by intro e; cases e)
  · exact absurd (congrArg (fun g : GSem nD τ sig × ℕ × Bool => g.1.2) h) (by intro e; cases e)
  · exact Prod.ext (congrArg (fun g : GSem nD τ sig × ℕ × Bool => g.1.1.1) h)
      (congrArg Sum.inr (semOf_inj x x' (SemLoc.dma.inj (congrArg (fun g : GSem nD τ sig × ℕ × Bool => g.1.2) h))))

/-- The tokens of all duties of the ring. -/
def ringToks : Finset (GSem nD τ sig × ℕ × Bool) := Finset.univ.map ⟨tokAt, tokAt_injective⟩

/-- The launch element: the staging's and the ring's. -/
def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun b : Bool => dutyTok ER (bCell c) 0 b)
    ∗ bigSep Finset.univ fun x : Tag => dutyTok ER (kcell (c, some x)) 0 false)

/-- What the launch element gives device `c`; and what the devices together make of it. -/
def G (c : Dev nD) : sProp 𝕄 :=
  iprop((bigSep Finset.univ fun k : Option Tag => roundState ER (Rd m) (kcell (c, k)) 0)
    ∗ (bigSep Finset.univ fun k : Option Tag => atPos ER (kcell (c, k)) 0 ∅ 0)
    ∗ (bigSep Finset.univ fun k : Option Tag => reached ER (kcell (c, k)) 0) ∗ toks c)

/-- What the launch hands to device `c`: the record of all cells, and its own share of them. -/
def G' (c : Dev nD) : sProp 𝕄 := iprop(∃ K, recs m K ∗ dealt (F := F) c)

/-- A family over optional tags is the barrier's member and the family over the tags. -/
theorem bigSep_opt {I : Type} [Fintype I] [DecidableEq I] (P : Option I → sProp 𝕄) :
    bigSep Finset.univ P = iprop(P none ∗ bigSep Finset.univ fun x => P (some x)) := by
  have h : (Finset.univ : Finset (Option I)) = insert none (Finset.univ.map Function.Embedding.some) := by
    ext x; cases x <;> simp
  rw [h, bigSep_insert (by simp), bigSep_map]
  rfl

/-- A family over copy cells is the senders' and the receivers'. -/
theorem bigSep_tag (P : Tag → sProp 𝕄) : bigSep Finset.univ P
    = iprop((bigSep Finset.univ fun v : Copy => P (true, v)) ∗ bigSep Finset.univ fun v : Copy => P (false, v)) := by
  rw [bigSep_univ_prod, bigSep_bool]

/-! ## Minting -/

/-- From the ring's initial ghost state each device gets its cells' states and its cells' tokens. -/
theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k : Option Tag => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat']; · iexact Hat'
  isplitl [Hr'] <;> iassumption

/-! ## The semaphores at launch -/

/-- The kernel's scoped semaphores at zero, as a family over the tags. -/
theorem ownSems0_eq (c : Dev nD) :
    (Pipeline.ownSems0 (Ix := Unit) (Name := ℕ) (U := UU) (Lvl := ℕ) (Val := Elt F) (τ := τ) osem c : sProp 𝕄)
      = bigSep Finset.univ fun x : Tag => semVal (kcell (c, some x)) 0 := rfl

/-- The one unscoped semaphore of a device is its barrier. -/
theorem unscopedSems0_eq (c : Dev nD) : (unscopedSems0 c : sProp 𝕄) = semVal (bCell c) 0 := by
  unfold unscopedSems0; rw [bigSep_eq_bigSepL_of_eq [SemLoc.reg barrier0] (by decide) (by decide)]; rfl

/-- One device's cells allocated. -/
theorem core_alloc (c : Dev nD) :
    iprop(Pipeline.ownSems0 (Ix := Unit) (Name := ℕ) (U := UU) (Lvl := ℕ) (Val := Elt F) (τ := τ) osem c
        ∗ unscopedSems0 c ∗ G m c)
      ⊢ |={Set.univ}=> iprop((bigSep Finset.univ fun k => iprop(∃ κ : ℕ, cellInv ER (Rd m) κ (kcell (c, k))))
          ∗ (bigSep Finset.univ fun k => atPos ER (kcell (c, k)) 0 ∅ 0)
          ∗ (bigSep Finset.univ fun k => reached ER (kcell (c, k)) 0) ∗ toks c) := by
  unfold G
  rw [ownSems0_eq, unscopedSems0_eq]
  iintro ⟨Hos, Hb, Hst, Hrest⟩
  imod (show iprop((bigSep Finset.univ fun k : Option Tag => semVal (kcell (c, k)) 0)
      ∗ bigSep Finset.univ fun k : Option Tag => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans
          (bigSep_fupd _ _)) $$ [Hos Hb Hst] with Hinv
  · rw [bigSep_opt fun k : Option Tag => (semVal (kcell (c, k)) 0 : sProp 𝕄)]
    isplitl [Hos Hb]
    · isplitl [Hb] <;> iassumption
    iexact Hst
  imodintro
  isplitl [Hinv] <;> iassumption

/-! ## Dealing -/

/-- The tokens dealt round the ring. -/
theorem toks_around : (bigSep Finset.univ fun c : Dev nD => (toks c : sProp 𝕄))
    ⊢ bigSep Finset.univ fun c : Dev nD => iprop(dutyTok ER (bCell (nb false c)) 0 true
        ∗ dutyTok ER (bCell (nb true c)) 0 false ∗ copyToks c) := by
  have hb (c : Dev nD) : (bigSep Finset.univ fun b : Bool => (dutyTok ER (bCell c) 0 b : sProp 𝕄))
      = iprop(dutyTok ER (bCell c) 0 true ∗ dutyTok ER (bCell c) 0 false) := bigSep_bool _
  have ht (c : Dev nD) : (bigSep Finset.univ fun x : Tag => (dutyTok ER (kcell (c, some x)) 0 false : sProp 𝕄))
      = iprop((bigSep Finset.univ fun v : Copy => dutyTok ER (sCell c v.1 v.2.1 v.2.2) 0 false)
        ∗ bigSep Finset.univ fun v : Copy => dutyTok ER (rCell c v.1 v.2.1 v.2.2) 0 false) := bigSep_tag _
  have hr : (bigSep Finset.univ fun c : Dev nD =>
        bigSep Finset.univ fun v : Copy => (dutyTok ER (rCell c v.1 v.2.1 v.2.2) 0 false : sProp 𝕄))
      = bigSep Finset.univ fun c : Dev nD =>
        bigSep Finset.univ fun v : Copy => dutyTok ER (rCell (nb v.1 c) v.1 v.2.1 v.2.2) 0 false := by
    rw [bigSep_univ_comm, bigSep_univ_comm (fun (c : Dev nD) (v : Copy) =>
      (dutyTok ER (rCell (nb v.1 c) v.1 v.2.1 v.2.2) 0 false : sProp 𝕄))]
    exact bigSep_congr fun v _ => bigSep_univ_equiv (ringE v.1)
      (fun c : Dev nD => (dutyTok ER (rCell c v.1 v.2.1 v.2.2) 0 false : sProp 𝕄))
  unfold toks copyToks
  simp only [hb, ht]
  simp only [bigSep_sep']
  rw [hr, bigSep_univ_equiv (ringE false) (fun c : Dev nD => (dutyTok ER (bCell c) 0 true : sProp 𝕄)),
    bigSep_univ_equiv (ringE true) (fun c : Dev nD => (dutyTok ER (bCell c) 0 false : sProp 𝕄))]
  iintro ⟨⟨H1, H2⟩, H3, H4⟩
  isplitl [H1]; · iexact H1
  isplitl [H2]; · iexact H2
  isplitl [H4]; · iexact H4
  iexact H3

/-- The records, a device's positions and the tokens dealt to it make up its share. -/
theorem deal_one (K : Dev nD × Option Tag → ℕ) (c : Dev nD) :
    iprop(recs m K ∗ (bigSep Finset.univ fun k : Option Tag => atPos ER (kcell (c, k)) 0 ∅ 0)
        ∗ dutyTok ER (bCell (nb false c)) 0 true ∗ dutyTok ER (bCell (nb true c)) 0 false ∗ copyToks c) ⊢ G' m c := by
  rw [bigSep_opt, bigSep_tag]
  unfold G' dealt copyPos
  iintro ⟨#HR, ⟨HB, HS, HV⟩, HL, HD, HT⟩
  iexists K
  isplitr; · iexact HR
  isplitl [HB]; · iexact HB
  isplitl [HL]; · iexact HL
  isplitl [HD]; · iexact HD
  isplitl [HS HV]
  · isplitl [HV]; · iexact HV
    iexact HS
  iexact HT

/-- A persistent fact goes to every member of a family. -/
theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants, allocated device by device, become one record that every device holds. -/
theorem regroup :
    (bigSep Finset.univ fun c : Dev nD => iprop((bigSep Finset.univ fun k => iprop(∃ κ : ℕ, cellInv ER (Rd m) κ (kcell (c, k))))
          ∗ (bigSep Finset.univ fun k => atPos ER (kcell (c, k)) 0 ∅ 0)
          ∗ (bigSep Finset.univ fun k => reached ER (kcell (c, k)) 0) ∗ toks c) : sProp 𝕄)
      ⊢ bigSep Finset.univ (G' m) := by
  rw [bigSep_sep', bigSep_sep', bigSep_sep',
    ← bigSep_univ_prod (fun ck : Dev nD × Option Tag => iprop(∃ κ : ℕ, cellInv ER (Rd m) κ (kcell ck))),
    ← bigSep_univ_prod (fun ck : Dev nD × Option Tag => (reached ER (kcell ck) 0 : sProp 𝕄))]
  iintro ⟨HI, Hat, #HR, Htok⟩
  ihave HK := (BI.bigSep_exists_pi Finset.univ
    (fun (ck : Dev nD × Option Tag) (κ : ℕ) => (cellInv ER (Rd m) κ (kcell ck) : sProp 𝕄))) $$ HI
  icases HK with ⟨%K, #HI⟩
  ihave Htk := (toks_around (F := F)) $$ Htok
  iapply (bigSep_persist (R := recs m K) fun c _ => deal_one m K c)
  isplitr
  · unfold recs
    rw [bigSep_sep']
    isplitr; · iexact HI
    iexact HR
  · iapply (Entails.of_eq (bigSep_sep' Finset.univ
      (fun c : Dev nD => bigSep Finset.univ fun k : Option Tag => (atPos ER (kcell (c, k)) 0 ∅ 0 : sProp 𝕄))
      (fun c : Dev nD => iprop(dutyTok ER (bCell (nb false c)) 0 true
        ∗ dutyTok ER (bCell (nb true c)) 0 false ∗ copyToks c))).symm)
    isplitl [Hat]; · iexact Hat
    iexact Htk

/-- All devices' semaphores and ghost state, dealt. -/
theorem glob : (bigSep Finset.univ fun c => iprop(Pipeline.ownSems0 (Ix := Unit) (Name := ℕ) (U := UU) (Lvl := ℕ)
      (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring
-- ==== Proof.KernelIdeal.Run.lean ====
/-
# The run

The credit a device is owed, the launch's side conditions, and the run: from any memory with zero counters every
device ends with its result in place, its arguments unchanged and every counter at zero.
-/
module

public import proofs.«01_k».proof.Proof.KernelIdeal.Cells
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The credit -/

/-- Two receive cells are one only if device, direction, half and hop agree. -/
theorem rCell_iff (a b : Dev nD) (d d' : Bool) (t t' : Fin 2) (r r' : Fin 15) :
    rCell a d t r = rCell b d' t' r' ↔ a = b ∧ d = d' ∧ t = t' ∧ r = r' := by
  constructor
  · intro h
    have h1 : a = b := congrArg (fun g : GSem nD τ sig => g.1.1) h
    have h2 : ((false, d, t, r) : Tag) = (false, d', t', r') :=
      semOf_inj _ _ (SemLoc.dma.inj (congrArg (fun g : GSem nD τ sig => g.2) h))
    simp only [Prod.mk.injEq, true_and] at h2
    exact ⟨h1, h2⟩
  · rintro ⟨rfl, rfl, rfl, rfl⟩; rfl

/-- Two barrier cells are one only if the devices agree. -/
theorem bCell_iff (a b : Dev nD) : bCell a = bCell b ↔ a = b :=
  ⟨fun h => congrArg (fun g : GSem nD τ sig => g.1.1) h, fun h => h ▸ rfl⟩

/-- A device's neighbour is `b` exactly if the device is `b`'s neighbour on the other side. -/
theorem nb_iff (d : Bool) (a b : Dev nD) : nb d a = b ↔ a = nb (!d) b :=
  ⟨fun h => by rw [← h, nb_nb'], fun h => by rw [h, nb_nb]⟩

/-- What a unit of device `a` owes a receive cell: one copy's credit if it is of its neighbour and of that unit. -/
theorem owe_r (d d' : Bool) (t t' : Fin 2) (a c : Dev nD) (r' : Fin 15) :
    owe d t a 0 (rCell c d' t' r') () = if nb d a = c ∧ d = d' ∧ t = t' then N else 0 := by
  unfold owe
  rw [from_zero, Finset.sum_apply, Finsupp.finset_sum_apply]
  have h (r : Fin 15) : tallyAt (rCell (nb d a) d t r) () N (rCell c d' t' r') ()
      = if r = r' then (if nb d a = c ∧ d = d' ∧ t = t' then N else 0) else 0 := by
    rw [tallyAt_apply]
    by_cases hr : r = r'
    · subst hr
      rw [if_pos rfl]
      by_cases hc : nb d a = c ∧ d = d' ∧ t = t'
      · obtain ⟨rfl, rfl, rfl⟩ := hc
        rw [if_pos ⟨rfl, rfl⟩, if_pos ⟨rfl, rfl, rfl⟩]
      · rw [if_neg hc, if_neg]
        rintro ⟨h, -⟩
        obtain ⟨h1, h2, h3, -⟩ := (rCell_iff _ _ _ _ _ _ _ _).mp h
        exact hc ⟨h1.symm, h2.symm, h3.symm⟩
    · rw [if_neg hr, if_neg]
      rintro ⟨h, -⟩
      exact hr ((rCell_iff _ _ _ _ _ _ _ _).mp h).2.2.2.symm
  rw [Finset.sum_congr rfl fun r _ => h r, Finset.sum_ite_eq' Finset.univ r' fun _ => _, if_pos (Finset.mem_univ _)]

/-- A unit owes the barrier nothing. -/
theorem owe_b (d : Bool) (t : Fin 2) (a c : Dev nD) : owe d t a 0 (bCell c) () = 0 := by
  unfold owe
  rw [Finset.sum_apply, Finsupp.finset_sum_apply]
  refine Finset.sum_eq_zero fun r _ => ?_
  rw [tallyAt_apply, if_neg]
  rintro ⟨h, -⟩
  cases congrArg (fun g : GSem nD τ sig => g.2) h

/-- Of all devices only the neighbour upstream owes a receive cell anything, and it owes one copy's credit. -/
theorem owed_r (a c : Dev nD) (d : Bool) (t : Fin 2) (r : Fin 15) :
    O₀ a (rCell c d t r) () = if a = nb (!d) c then N else 0 := by
  have hb (x : Dev nD) : tallyAt (bCell x) () 1 (rCell c d t r) () = 0 := by
    rw [tallyAt_apply, if_neg]
    rintro ⟨h, -⟩
    cases congrArg (fun g : GSem nD τ sig => g.2) h
  unfold O₀ owe4
  simp only [Pi.add_apply, Finsupp.add_apply, owe_r, hb, Nat.add_zero]
  rw [← if_congr (nb_iff d a c) rfl rfl]
  have ht : t = 0 ∨ t = 1 := (by decide : ∀ t : Fin 2, t = 0 ∨ t = 1) t
  rcases ht with rfl | rfl <;> cases d <;> simp

/-- Each of a device's two neighbours owes its barrier one. -/
theorem owed_b (a c : Dev nD) :
    O₀ a (bCell c) () = (if a = nb false c then 1 else 0) + (if a = nb true c then 1 else 0) := by
  have hb (d : Bool) : tallyAt (bCell (nb d a)) () 1 (bCell c) () = if a = nb (!d) c then 1 else 0 := by
    rw [tallyAt_apply]
    refine if_congr ?_ rfl rfl
    rw [← nb_iff, bCell_iff]
    exact ⟨fun h => h.1.symm, fun h => ⟨h.symm, rfl⟩⟩
  unfold O₀ owe4
  simp only [Pi.add_apply, Finsupp.add_apply, owe_b, hb, Nat.zero_add, Bool.not_true, Bool.not_false]

/-- All devices together owe a barrier two. -/
theorem launch_b (c : Dev nD) :
    tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun a _ => owed_b a c,
    Finset.sum_add_distrib, Finset.sum_ite_eq' Finset.univ (nb false c) fun _ => 1,
    Finset.sum_ite_eq' Finset.univ (nb true c) fun _ => 1, if_pos (Finset.mem_univ _), if_pos (Finset.mem_univ _)]

/-- All devices together owe a receive cell one copy's credit. -/
theorem launch_r (c : Dev nD) (d : Bool) (t : Fin 2) (r : Fin 15) :
    tallyOn (rCell c d t r) (launchCredit (Pipeline.owing O₀) 0 (rCell c d t r))
      = (tallyAt (rCell c d t r) () N : CellTallies nD τ sig Unit) := by
  conv_rhs => unfold tallyAt
  refine congrArg _ (Finsupp.ext fun u => ?_); cases u
  rw [Pipeline.launchCredit_owing, Finsupp.single_eq_same, Finset.sum_congr rfl fun a _ => owed_r a c d t r,
    Finset.sum_ite_eq' Finset.univ (nb (!d) c) fun _ => N, if_pos (Finset.mem_univ _)]

/-- The cells a device is owed credit at. -/
def credSem : Option Copy ↪ SemLoc sig where
  toFun
    | none => .reg barrier0
    | some v => .dma (rSem v.1 v.2.1 v.2.2)
  inj' := by
    rintro (_ | ⟨d, t, r⟩) (_ | ⟨d', t', r'⟩) h
    · rfl
    · cases h
    · cases h
    · have h2 : ((false, d, t, r) : Tag) = (false, d', t', r') := semOf_inj _ _ (SemLoc.dma.inj h)
      simp only [Prod.mk.injEq, true_and] at h2
      obtain ⟨rfl, rfl, rfl⟩ := h2
      rfl

/-- What a device is owed at launch: two at its barrier, and one copy's credit at each of its receive cells. -/
theorem creds (c : Dev nD) :
    (Pipeline.launchCred O₀ c : sProp 𝕄) ⊢ iprop(cred (tallyAt (bCell c) () 2) ∗ copyCred c) := by
  unfold Pipeline.launchCred copyCred
  refine BIBase.Entails.trans (bigSep_subset (Finset.subset_univ (Finset.univ.map credSem))) (Entails.of_eq ?_)
  rw [bigSep_map, bigSep_opt]
  refine congrArg₂ (fun P Q => (iprop(P ∗ Q) : sProp 𝕄)) ?_ (bigSep_congr fun v _ => ?_)
  · exact congrArg cred (launch_b c)
  · exact congrArg cred (launch_r c v.1 v.2.1 v.2.2)

/-! ## The pipeline's data -/

/-- What the launch's one point does: fetch both blocks, run the body, write the result back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ystg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Every window's array is held whole. -/
theorem share_eq (c : Dev nD) (w : Fin cfg0.W) : (dats m ρ 0 c).share w = fullShare := by
  unfold Dat.share; split <;> rfl

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
/-- The launch's precondition of the body, with the buffers named. -/
def libPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The postcondition with the buffers named. -/
def libPost (c : Dev nD) : sProp 𝕄 :=
  iprop(Φ₁ c ∗ (dats m ρ 0 c).owesAt () t0_0.succ ∗ stg c cc0_stg0_0 (xstg m c) ∗ stg c cc0_stg1_0 (ystg m c)
    ∗ stg c cc0_stg2_0 (outAt m c))

/-- The launch's precondition gives the body's: the inputs' blocks are staged, the output's buffer holds anything. -/
theorem pre_intro (c : Dev nD) : libPre m ρ c ⊢ bodyPre m c := by
  unfold libPre bodyPre
  iintro ⟨HΦ, Ho, ⟨%d0, %g0, %h0, Hx⟩, ⟨%d1, %g1, %h1, Hy⟩, ⟨%d2, %g2, %h2, Hout⟩⟩
  have hx : g0 = xstg m c := by rw [h0]; unfold Dat.before; rw [if_pos (fetch0_0 t0_0)]; rfl
  have hy : g1 = ystg m c := by rw [h1]; unfold Dat.before; rw [if_pos (fetch0_1 t0_0)]; rfl
  subst hx
  subst hy
  isplitl [HΦ]; · iexact HΦ
  isplitl [Ho]
  · unfold Dat.owesAt Pipeline.owesWithin
    icases Ho with ⟨%W, %hW, HO⟩
    iexists W
    iexact HO
  isplitl [Hx]; · iexact Hx
  isplitl [Hy]; · iexact Hy
  iexists g2; iexact Hout

/-- The body's postcondition gives the launch's. -/
theorem post_intro (c : Dev nD) : bodyPost m c ⊢ libPost m ρ c := by
  unfold libPost bodyPost
  iintro ⟨HΦ, ⟨%W, HO⟩, Hx, Hy, Hout⟩
  isplitl [HΦ]; · iexact HΦ
  isplitl [HO]
  · unfold Dat.owesAt Pipeline.owesWithin
    iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

set_option maxRecDepth 8000 in
/-- The printed body meets the launch's pre- and postcondition. -/
theorem lib_body (c : Dev nD) : libPre m ρ c ⊢ wp frame (wpE (defs₀ (F := F)) 𝒱₀ c none) Set.univ
    (cc0_body (Memref.whole cc0_stg0_0) (Memref.isWhole_whole _) (Memref.whole cc0_stg1_0)
      (Memref.isWhole_whole _) (Memref.whole cc0_stg2_0) (Memref.isWhole_whole _) (Memref.whole cc0_scratch0)
      (Memref.isWhole_whole _) (Memref.whole cc0_scratch1) (Memref.isWhole_whole _) (Memref.whole cc0_scratch2)
      (Memref.isWhole_whole _) cc0_scratch3 cc0_scratch4 cc0_scratch5 cc0_scratch6) (fun _ => libPost m ρ c) := by
  rw [body_eq]
  iintro H
  iapply (wp_body m c fun _ => libPost m ρ c)
  isplitl [H]
  · iapply (pre_intro m ρ c); iexact H
  · iintro H
    iapply (post_intro m ρ c); iexact H

set_option maxRecDepth 40000 in
/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact lib_body m ρ c

/-! ## The launch's side conditions -/

/-- What the launch deals out to a device is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the scratch buffers it is the body's resources at entry. -/
theorem phi0_intro (c : Dev nD) :
    iprop(start m c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The body's resources at exit give back every counter at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_tag]
  unfold Φ₁ scratch copyZeros
  iintro ⟨Hr, ⟨HzR, HzS⟩, HzB⟩
  isplitl [HzB]; · iexact HzB
  isplitl [HzS HzR]
  · isplitl [HzS]; · iexact HzS
    iexact HzR
  iexact Hr

set_option maxRecDepth 8000 in
/-- The staging's semaphores are the first three. -/
theorem stage_low : ∀ (w : Fin cfg0.W) (s : Fin (cfg0.spec w).nbuf), ((cfg0.spec w).sem s).val < 3 := by decide

/-- The staging may wait at any time: its cells' level is below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 (lv_low c _ (stage_low w s) ()) _ (by
      rcases t with ⟨_ | _, ht⟩
      · exact Above.O₀ c
      · exact Above.zero 0)

/-! ## The run -/

/-- What a windowed array holds at the end. -/
def finalA (c : Dev nD) (w : Fin cfg0.W) : Buf (Elt F) ((cfg0.win w).arr.view.loc (c : Thread nD τ)) :=
  (dats m ρ 0 c).arrAt w cfg0.N

/-- Every windowed array holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Every weakly fair execution of the sixteen devices ends, each windowed array at its final contents and every
counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj
    (0 : Fin 1) winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 8000 in
/-- The first argument ends as it was. -/
theorem finalA_x (c : Dev nD) : finalA m ρ c (0 : Fin 3) = m ((c : Thread nD τ).loc main_arg0) :=
  (dats (F := F) m ρ 0 c).arrAt_in (0 : Fin 3) rfl _
set_option maxRecDepth 8000 in
/-- The second argument ends as it was. -/
theorem finalA_y (c : Dev nD) : finalA m ρ c (1 : Fin 3) = m ((c : Thread nD τ).loc main_arg1) :=
  (dats (F := F) m ρ 0 c).arrAt_in (1 : Fin 3) rfl _

end Cert.KernelIdeal.Ring
-- ==== Proof.KernelIdeal.Value.lean ====
/-
# What a device's result holds

Over the extended reals: entry `(i, j)` of device `c`'s result is the sum, over the sixteen devices, of entry
`(64 c + i, j)` of the device's own product; and a device's own product is the product of its two blocks.
-/
module

public import proofs.«01_k».proof.Proof.KernelIdeal.Run
public import Idealize.ShloMosaic.Lib.Pointwise
public import Idealize.ShloMosaic.Lib.Pipeline.ValueKit

@[expose] public section

noncomputable section

namespace Cert.KernelIdeal.Ring

open Cert.KernelIdeal Cert.KernelIdeal.Gen
open Idealize.ShloMosaic
open Idealize.ShloMosaic.TcCoe
open Idealize.SL.Sem

/-! ## The array after the run, at any float instance -/

section Any
variable {F : FTy → Type} [FloatOps F]
variable (m : (ℓ : Loc nD τ sig) → Buf (Elt F) ℓ) (ρ : Dev nD → PrngReg)

/-- The result array ends holding what the body leaves in its staging buffer. -/
theorem finalA_out (c : Dev nD) (j : S64x4096.Idx) : finalA m ρ c (2 : Fin 3) j = outAt m c j := by
  unfold finalA
  revert j
  refine funext_iff.mp ?_
  refine (dats m ρ 0 c).arrAt_eq_of_after_last (2 : Fin 3) t0_0 (by decide +kernel) _ fun j => ?_
  blk_simp
  rfl

/-- The staged block of `x` is the device's whole argument. -/
theorem xstg_apply (c : Dev nD) (j : S1024x1024.Idx) : xstg m c j = m ((c : Thread nD τ).loc main_arg0) j := by
  unfold xstg
  exact congrArg (m ((c : Thread nD τ).loc main_arg0)) (funext fun a => Fin.ext (win0_0.rect_emb_val_of_index_zero t0_0 a (by revert a; decide) j))

/-- The staged block of `dy` is the device's whole argument. -/
theorem ystg_apply (c : Dev nD) (j : S1024x4096.Idx) : ystg m c j = m ((c : Thread nD τ).loc main_arg1) j := by
  unfold ystg
  exact congrArg (m ((c : Thread nD τ).loc main_arg1)) (funext fun a => Fin.ext (win0_1.rect_emb_val_of_index_zero t0_0 a (by revert a; decide) j))

end Any

/-! ## The sums, over the extended reals -/

variable (m : (ℓ : Loc nD τ sig) → Buf (Elt Ideal) ℓ)

/-- A device's own product at an entry. -/
def prodE (e : Dev nD) (i : S1024x4096.Idx) : EReal := prodAt m e i

/-- What a unit sends at hop `r` is the sum of the products of the `r + 1` devices from the sender upstream. -/
theorem sent_sum (d : Bool) (t : Fin 2) (r : Nat) : ∀ (c : Dev nD) (_ : r ≤ 15) (j : S64x1024.Idx),
    (sent m d t r c j : EReal)
      = ∑ k ∈ Finset.range (r + 1), prodE m ((nb (!d))^[k] c) ((blkR d t (sc d r c)).emb j) := by
  induction r with
  | zero =>
    intro c _ j
    rw [Finset.sum_range_one]
    rfl
  | succ r ih =>
    intro c hr j
    rw [Finset.sum_range_succ']
    have h : (sent m d t (r + 1) c j : EReal) = part m d t (r + 1) c j + sent m d t r (nb (!d) c) j := rfl
    rw [h, ih (nb (!d) c) (by omega) j, sc_up d c r (by omega), add_comm]
    rfl

/-- Fewer than sixteen steps along the ring do not come back to where they began. -/
theorem upstream_inj : ∀ (d : Bool) (c : Dev nD) (k k' : Fin 16), (nb d)^[k.val] c = (nb d)^[k'.val] c → k = k' := by
  decide +kernel

/-- Sixteen steps upstream pass every device once. -/
theorem sum_upstream (d : Bool) (c : Dev nD) (f : Dev nD → EReal) :
    ∑ k ∈ Finset.range 16, f ((nb d)^[k] c) = ∑ e : Dev nD, f e := by
  rw [← Fin.sum_univ_eq_sum_range (fun k => f ((nb d)^[k] c)) 16]
  have hb : Function.Bijective fun k : Fin 16 => ((nb d)^[k.val] c : Fin 16) :=
    Finite.injective_iff_bijective.mp fun k k' h => upstream_inj d c k k' h
  exact hb.sum_comp fun e : Fin 16 => f e

/-- Row `i` of device `c`'s chunk among all rows. -/
def rowOf (c : Dev nD) (i : Fin 64) : Fin 1024 :=
  ⟨c.val * 64 + i.val, by have : c.val < 16 := c.isLt; have := i.isLt; omega⟩

set_option maxRecDepth 8000 in
/-- Entry `(i, j)` of device `c`'s result. -/
theorem outAt_sum (c : Dev nD) (i : Fin 64) (j : Fin 4096) :
    (outAt m c (ix2 i j : S64x4096.Idx) : EReal) = ∑ e : Dev nD, prodE m e (ix2 (rowOf c i) j) := by
  have hj := j.isLt
  have hx : (Rect.unit (s := S1024x4096) (k0_off9 c) S64x4096.size (k0_off9_inb c)).emb (ix2 i j : S64x4096.Idx)
      = (ix2 (rowOf c i) j : S1024x4096.Idx) := by
    have h0 : k0_off9 c 0 = c.val * 64 := by rw [k0_off9_eq]; exact Nat.mul_comm ..
    have h1 : k0_off9 c 1 = 0 := by rw [k0_off9_eq]; rfl
    refine funext fun a => Fin.ext ?_
    rw [Rect.emb_apply]
    fin_cases a
    · show k0_off9 c 0 + 1 * i.val = c.val * 64 + i.val
      omega
    · show k0_off9 c 1 + 1 * j.val = j.val
      omega
  have key (d : Bool) (t : Fin 2) (j' : Fin 1024) (h : j.val = col d t + j'.val) :
      (outAt m c (ix2 i j : S64x4096.Idx) : EReal) = ∑ e : Dev nD, prodE m e (ix2 (rowOf c i) j) := by
    have hix : (blkR d t (sc d 15 c)).emb (ix2 i j' : S64x1024.Idx) = (ix2 (rowOf c i) j : S1024x4096.Idx) := by
      have hs := sc_last d c
      refine funext fun a => Fin.ext ?_
      rw [Rect.emb_apply]
      fin_cases a
      · show 64 * (sc d 15 c).val + 1 * i.val = c.val * 64 + i.val
        omega
      · show col d t + 1 * j'.val = j.val
        omega
    have hb := congrFun (accEnd_blk m c ((d, t), 15)) (ix2 i j' : S64x1024.Idx)
    have hs := sent_sum m d t 15 c le_rfl (ix2 i j' : S64x1024.Idx)
    rw [hix] at hs
    refine Eq.trans ?_ (hs.trans (sum_upstream (!d) c fun e => prodE m e (ix2 (rowOf c i) j)))
    unfold outAt
    rw [hx, ← hix]
    exact hb
  by_cases h : j.val < 2048
  · refine key true ⟨j.val / 1024, by omega⟩ ⟨j.val % 1024, by omega⟩ ?_
    simp only [col, if_true]; omega
  · refine key false ⟨(j.val - 2048) / 1024, by omega⟩ ⟨j.val % 1024, by omega⟩ ?_
    simp only [col, Bool.false_eq_true, if_false]; omega

/-- Device `e`'s entry `(k, a)` of `x`. -/
def xE (e : Dev nD) (k a : Fin 1024) : EReal := m ((e : Thread nD τ).loc main_arg0) (ix2 k a : S1024x1024.Idx)

/-- Device `e`'s entry `(k, b)` of `dy`. -/
def yE (e : Dev nD) (k : Fin 1024) (b : Fin 4096) : EReal :=
  m ((e : Thread nD τ).loc main_arg1) (ix2 k b : S1024x4096.Idx)

/-- A device's own product, over its 1024 rows. -/
theorem prodE_sum (e : Dev nD) (a : Fin 1024) (b : Fin 4096) :
    prodE m e (ix2 a b) = ∑ k : Fin 1024, xE m e k a * yE m e k b := by
  unfold prodE prodAt
  pointwise [k0_pay1]
  refine Finset.sum_congr rfl fun k _ => ?_
  rw [xstg_apply, ystg_apply]
  rfl

end Cert.KernelIdeal.Ring
-- ==== Proof.Equation.lean ====
/-
# The reference, and the equation

Over the extended reals: entry `(a, b)` of the reference's result is the sum over all 16384 rows of `x` and `dy`.
Where each device holds its 1024 rows of both, its 64 rows of the result are the reference's.
-/
module

public import proofs.«01_k».proof.Proof.KernelIdeal.Value
public import proofs.«01_k».proof.Proof.Gen.ReferenceIdeal.Run

@[expose] public section

noncomputable section

namespace Cert.Equation

open Idealize.ShloMosaic
open Idealize.ShloMosaic.TcCoe
open Idealize.SL.Sem
open Cert.KernelIdeal.Ring

/-- A memory of the kernel's sixteen devices. -/
abbrev KMem : Type :=
  (ℓ : Loc Cert.KernelIdeal.nD Cert.KernelIdeal.τ Cert.KernelIdeal.sig) → Buf (Elt Ideal) ℓ

/-- A memory of the reference's one device. -/
abbrev RMem : Type :=
  (ℓ : Loc Cert.ReferenceIdeal.nD Cert.ReferenceIdeal.τ Cert.ReferenceIdeal.sig) → Buf (Elt Ideal) ℓ

/-- The reference's whole `x`. -/
def wholeX (m' : RMem) (l : Fin 16384) (a : Fin 1024) : EReal :=
  m' (((0 : Dev Cert.ReferenceIdeal.nD).tc : Thread Cert.ReferenceIdeal.nD Cert.ReferenceIdeal.τ).loc
    Cert.ReferenceIdeal.main_arg0) (ix2 l a : Cert.ReferenceIdeal.S16384x1024.Idx)

/-- The reference's whole `dy`. -/
def wholeY (m' : RMem) (l : Fin 16384) (b : Fin 4096) : EReal :=
  m' (((0 : Dev Cert.ReferenceIdeal.nD).tc : Thread Cert.ReferenceIdeal.nD Cert.ReferenceIdeal.τ).loc
    Cert.ReferenceIdeal.main_arg1) (ix2 l b : Cert.ReferenceIdeal.S16384x4096.Idx)

/-- The reference's result, as its run states it. -/
def refV (m' : RMem) : Vec Ideal Cert.ReferenceIdeal.S1024x4096 .f32 :=
  Host.dotGeneral (F := Ideal) (φ₁ := .f32) (φ₂ := .f32) Cert.ReferenceIdeal.dot_S1024x16384_S16384x4096_S1024x4096_1_0_0_1_n_n none
    (transpose Cert.ReferenceIdeal.S1024x16384 [1, 0]
      (m' (((0 : Dev Cert.ReferenceIdeal.nD).tc : Thread Cert.ReferenceIdeal.nD Cert.ReferenceIdeal.τ).loc
        Cert.ReferenceIdeal.main_arg0)) Cert.ReferenceIdeal.Gen.transposes_S16384x1024_S1024x16384_1_0)
    (m' (((0 : Dev Cert.ReferenceIdeal.nD).tc : Thread Cert.ReferenceIdeal.nD Cert.ReferenceIdeal.τ).loc
      Cert.ReferenceIdeal.main_arg1))

set_option maxRecDepth 16384 in
/-- An entry of the reference's result. -/
theorem refV_sum (m' : RMem) (a : Fin 1024) (b : Fin 4096) :
    (refV m' (ix2 a b : Cert.ReferenceIdeal.S1024x4096.Idx) : EReal)
      = ∑ l : Fin 16384, wholeX m' l a * wholeY m' l b := by
  unfold refV
  pointwise
  rfl

/-- Each device holds its rows of both arguments. -/
def Held (m : KMem) (m' : RMem) : Prop := ∀ c : Dev Cert.KernelIdeal.nD,
  m ((c.tc : Thread Cert.KernelIdeal.nD Cert.KernelIdeal.τ).loc Cert.KernelIdeal.main_arg0)
      = Layout.block ⟨2, ![1024, 1024]⟩ ⟨2, ![16384, 1024]⟩ 0 16 c
        (m' (((0 : Dev Cert.ReferenceIdeal.nD).tc : Thread Cert.ReferenceIdeal.nD Cert.ReferenceIdeal.τ).loc
          Cert.ReferenceIdeal.main_arg0))
    ∧ m ((c.tc : Thread Cert.KernelIdeal.nD Cert.KernelIdeal.τ).loc Cert.KernelIdeal.main_arg1)
      = Layout.block ⟨2, ![1024, 4096]⟩ ⟨2, ![16384, 4096]⟩ 0 16 c
        (m' (((0 : Dev Cert.ReferenceIdeal.nD).tc : Thread Cert.ReferenceIdeal.nD Cert.ReferenceIdeal.τ).loc
          Cert.ReferenceIdeal.main_arg1))

/-- An entry of a block of rows: the entry that many rows down the whole. -/
theorem block_rows {α : Type} {R R' C : Nat} (c : Fin 16) (v : (⟨2, ![R', C]⟩ : Shape).Idx → α)
    (h : Layout.Tiles ⟨2, ![R, C]⟩ ⟨2, ![R', C]⟩ 0 16) (i : Fin R) (j : Fin C) (hl : c.val * R + i.val < R') :
    Layout.block ⟨2, ![R, C]⟩ ⟨2, ![R', C]⟩ 0 16 c v h (ix2 i j) = v (ix2 ⟨c.val * R + i.val, hl⟩ j) := by
  rw [Layout.block_apply]
  refine congrArg v (funext fun a => Fin.ext ?_)
  have := Layout.idx_rows_val h c (ix2 i j)
  fin_cases a
  · exact this.1
  · exact this.2

/-- Every device's block of the reference's result is what the kernel leaves there. -/
theorem outAt_block {m : KMem} {m' : RMem} (H : Held m m') (c : Dev Cert.KernelIdeal.nD) :
    outAt m c = Layout.block ⟨2, ![64, 4096]⟩ ⟨2, ![1024, 4096]⟩ 0 16 c (refV m') := by
  refine funext fun q => ?_
  obtain ⟨i, j, rfl⟩ : ∃ (i : Fin 64) (j : Fin 4096), q = ix2 i j := ⟨q 0, q 1, eq_ix2 q⟩
  rw [block_rows c (refV m') (by decide) i j (rowOf c i).isLt]
  have key : (∑ e : Dev Cert.KernelIdeal.nD, prodE m e (ix2 (rowOf c i) j))
      = ∑ l : Fin 16384, wholeX m' l (rowOf c i) * wholeY m' l j := by
    refine Eq.trans (Finset.sum_congr rfl fun e _ => prodE_sum m e (rowOf c i) j) ?_
    refine Fin.sum_mul_add_congr (S := 16) (n := 1024) fun e k hl => ?_
    have hx : xE m e k (rowOf c i) = wholeX m' ⟨e.val * 1024 + k.val, hl⟩ (rowOf c i) :=
      (congrFun (H e).1 _).trans (block_rows e _ _ k (rowOf c i) hl)
    have hy : yE m e k j = wholeY m' ⟨e.val * 1024 + k.val, hl⟩ j :=
      (congrFun (H e).2 _).trans (block_rows e _ _ k j hl)
    rw [hx, hy]
  exact (outAt_sum m c i j).trans (key.trans (refV_sum m' (rowOf c i) j).symm)

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel, at the chip's own floats: every run ends, its arguments unchanged, every counter at zero. -/
theorem kernel_frame : quiescent_Kernel (hKernel := Cert.Kernel.Gen.facts) := fun m g _ =>
  (θ_run _ _ _).mono (fun _ h => ⟨fun c => ⟨(h.1 c (0 : Fin 3)).trans (Cert.Kernel.Ring.finalA_x m g c),
    (h.1 c (1 : Fin 3)).trans (Cert.Kernel.Ring.finalA_y m g c)⟩, h.2⟩) (Cert.Kernel.Ring.run_main m g)

/-- The same kernel over the extended reals. -/
theorem ideal_frame : quiescent_KernelIdeal (hKernelIdeal := Cert.KernelIdeal.Gen.facts) := fun m g _ =>
  (θ_run _ _ _).mono (fun _ h => ⟨fun c => ⟨(h.1 c (0 : Fin 3)).trans (Cert.KernelIdeal.Ring.finalA_x m g c),
    (h.1 c (1 : Fin 3)).trans (Cert.KernelIdeal.Ring.finalA_y m g c)⟩, h.2⟩) (Cert.KernelIdeal.Ring.run_main m g)

/-- The reference: it has no counters. -/
theorem reference_frame : quiescent_ReferenceIdeal (hReferenceIdeal := Cert.ReferenceIdeal.Gen.facts) := fun m g _ =>
  (θ_run _ _ _).mono (fun _ h => ⟨fun c => (h c).2, funext fun ⟨_, s⟩ => by
    rcases s with s | s <;> exact s.elim0⟩) (Cert.ReferenceIdeal.Value.run m g)

/-- The equation: each device's result is its block of the reference's, over the extended reals. -/
theorem equation : algebraic_KernelIdeal_ReferenceIdeal (hKernelIdeal := Cert.KernelIdeal.Gen.facts)
    (hReferenceIdeal := Cert.ReferenceIdeal.Gen.facts) := fun m g m' g' _ H =>
  ⟨Cert.Equation.refV m',
    (θ_run _ _ _).mono (fun _ h c => ⟨((h.1 c (2 : Fin 3)).trans (funext (Cert.KernelIdeal.Ring.finalA_out m g c))).trans
        (Cert.Equation.outAt_block H c),
      (h.1 c (0 : Fin 3)).trans (Cert.KernelIdeal.Ring.finalA_x m g c),
      (h.1 c (1 : Fin 3)).trans (Cert.KernelIdeal.Ring.finalA_y m g c)⟩) (Cert.KernelIdeal.Ring.run_main m g),
    (θ_run _ _ _).mono (fun _ h => h 0) (Cert.ReferenceIdeal.Value.run m' g')⟩

/-- All five claims. -/
theorem claim : Cert.Claim := ⟨Cert.Kernel.Gen.facts, Cert.KernelIdeal.Gen.facts, Cert.ReferenceIdeal.Gen.facts,
  kernel_frame, ideal_frame, reference_frame, trivial, equation⟩

end Cert.Proof

end
